-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S4096x100 : Shape := ⟨2, ![4096, 100]⟩
abbrev S100 : Shape := ⟨1, ![100]⟩
abbrev S100x32 : Shape := ⟨2, ![100, 32]⟩
abbrev S8x16 : Shape := ⟨2, ![8, 16]⟩
abbrev S65x128 : Shape := ⟨2, ![65, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S4096x100 : S_.BroadcastsInDim S4096x100 (![] : Fin 0 → Fin S4096x100.rank)
  bcast_S_S100 : S_.BroadcastsInDim S100 (![] : Fin 0 → Fin S100.rank)
  bcast_S_S100x32 : S_.BroadcastsInDim S100x32 (![] : Fin 0 → Fin S100x32.rank)
  bcast_S_S8x16 : S_.BroadcastsInDim S8x16 (![] : Fin 0 → Fin S8x16.rank)
  bcast_S_S65x128 : S_.BroadcastsInDim S65x128 (![] : Fin 0 → Fin S65x128.rank)
  bcast_S_S128 : S_.BroadcastsInDim S128 (![] : Fin 0 → Fin S128.rank)
  bcast_S_S128x128 : S_.BroadcastsInDim S128x128 (![] : Fin 0 → Fin S128x128.rank)

variable [Facts]

def fn_part2 {F : FTy → Type} [FloatOps F] (main_arg10 : FVec F S128 .f32) (main_arg11 : FVec F S128x128 .f32) (main_arg12 : FVec F S128 .f32) (main_v2 : IVec S4096x100 1) (main_v7 : IVec S100 1) (main_v12 : IVec S100 1) (main_v17 : IVec S100 1) (main_v20 : IVec S100x32 1) (main_v23 : IVec S8x16 1) (main_v26 : IVec S8x16 1) (main_v29 : IVec S65x128 1) (main_v32 : IVec S128 1) (main_v33 : FVec F S128 .f32) (main_v34 : FVec F S128 .f32) : IVec S4096x100 1 × IVec S100 1 × IVec S100 1 × IVec S100 1 × IVec S100x32 1 × IVec S8x16 1 × IVec S8x16 1 × IVec S65x128 1 × IVec S128 1 × IVec S128 1 × IVec S128 1 × IVec S128x128 1 × IVec S128 1 :=
  let main_v35 : IVec S128 1 := cmpf .olt main_v33 main_v34
  let main_v36 : FVec F S128 .f32 := Host.absf main_arg10
  let main_cst_11 : FVec F S_ .f32 := constant S_ .f32 0x7F800000#32
  let main_v37 : FVec F S128 .f32 := broadcastInDim S128 ![] bcast_S_S128 main_cst_11
  let main_v38 : IVec S128 1 := cmpf .olt main_v36 main_v37
  let main_v39 : FVec F S128x128 .f32 := Host.absf main_arg11
  let main_cst_12 : FVec F S_ .f32 := constant S_ .f32 0x7F800000#32
  let main_v40 : FVec F S128x128 .f32 := broadcastInDim S128x128 ![] bcast_S_S128x128 main_cst_12
  let main_v41 : IVec S128x128 1 := cmpf .olt main_v39 main_v40
  let main_v42 : FVec F S128 .f32 := Host.absf main_arg12
  let main_cst_13 : FVec F S_ .f32 := constant S_ .f32 0x7F800000#32
  let main_v43 : FVec F S128 .f32 := broadcastInDim S128 ![] bcast_S_S128 main_cst_13
  let main_v44 : IVec S128 1 := cmpf .olt main_v42 main_v43
  (main_v2, main_v7, main_v12, main_v17, main_v20, main_v23, main_v26, main_v29, main_v32, main_v35, main_v38, main_v41, main_v44)

def fn_part1 {F : FTy → Type} [FloatOps F] (main_arg4 : FVec F S100x32 .f32) (main_arg5 : FVec F S8x16 .f32) (main_arg6 : FVec F S8x16 .f32) (main_arg7 : FVec F S65x128 .f32) (main_arg8 : FVec F S128 .f32) (main_arg9 : FVec F S128 .f32) (main_arg10 : FVec F S128 .f32) (main_arg11 : FVec F S128x128 .f32) (main_arg12 : FVec F S128 .f32) (main_v2 : IVec S4096x100 1) (main_v7 : IVec S100 1) (main_v12 : IVec S100 1) (main_v14 : IVec S100 1) (main_v16 : IVec S100 1) : IVec S4096x100 1 × IVec S100 1 × IVec S100 1 × IVec S100 1 × IVec S100x32 1 × IVec S8x16 1 × IVec S8x16 1 × IVec S65x128 1 × IVec S128 1 × IVec S128 1 × IVec S128 1 × IVec S128x128 1 × IVec S128 1 :=
  let main_v17 : IVec S100 1 := andi main_v14 main_v16
  let main_v18 : FVec F S100x32 .f32 := Host.absf main_arg4
  let main_cst_5 : FVec F S_ .f32 := constant S_ .f32 0x7F800000#32
  let main_v19 : FVec F S100x32 .f32 := broadcastInDim S100x32 ![] bcast_S_S100x32 main_cst_5
  let main_v20 : IVec S100x32 1 := cmpf .olt main_v18 main_v19
  let main_v21 : FVec F S8x16 .f32 := Host.absf main_arg5
  let main_cst_6 : FVec F S_ .f32 := constant S_ .f32 0x7F800000#32
  let main_v22 : FVec F S8x16 .f32 := broadcastInDim S8x16 ![] bcast_S_S8x16 main_cst_6
  let main_v23 : IVec S8x16 1 := cmpf .olt main_v21 main_v22
  let main_v24 : FVec F S8x16 .f32 := Host.absf main_arg6
  let main_cst_7 : FVec F S_ .f32 := constant S_ .f32 0x7F800000#32
  let main_v25 : FVec F S8x16 .f32 := broadcastInDim S8x16 ![] bcast_S_S8x16 main_cst_7
  let main_v26 : IVec S8x16 1 := cmpf .olt main_v24 main_v25
  let main_v27 : FVec F S65x128 .f32 := Host.absf main_arg7
  let main_cst_8 : FVec F S_ .f32 := constant S_ .f32 0x7F800000#32
  let main_v28 : FVec F S65x128 .f32 := broadcastInDim S65x128 ![] bcast_S_S65x128 main_cst_8
  let main_v29 : IVec S65x128 1 := cmpf .olt main_v27 main_v28
  let main_v30 : FVec F S128 .f32 := Host.absf main_arg8
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  let main_v33 : FVec F S128 .f32 := Host.absf main_arg9
  let main_cst_10 : FVec F S_ .f32 := constant S_ .f32 0x7F800000#32
  let main_v34 : FVec F S128 .f32 := broadcastInDim S128 ![] bcast_S_S128 main_cst_10
  fn_part2 (F := F) main_arg10 main_arg11 main_arg12 main_v2 main_v7 main_v12 main_v17 main_v20 main_v23 main_v26 main_v29 main_v32 main_v33 main_v34

def fn {F : FTy → Type} [FloatOps F] (main_arg0 : FVec F S4096x100 .f32) (main_arg1 : IVec S100 32) (main_arg2 : IVec S100 32) (main_arg3 : IVec S100 32) (main_arg4 : FVec F S100x32 .f32) (main_arg5 : FVec F S8x16 .f32) (main_arg6 : FVec F S8x16 .f32) (main_arg7 : FVec F S65x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) : IVec S4096x100 1 × IVec S100 1 × IVec S100 1 × IVec S100 1 × IVec S100x32 1 × IVec S8x16 1 × IVec S8x16 1 × IVec S65x128 1 × IVec S128 1 × IVec S128 1 × IVec S128 1 × IVec S128x128 1 × IVec S128 1 :=
  let main_v0 : FVec F S4096x100 .f32 := Host.absf main_arg0
  let main_cst : FVec F S_ .f32 := constant S_ .f32 0x7F800000#32
  let main_v1 : FVec F S4096x100 .f32 := broadcastInDim S4096x100 ![] bcast_S_S4096x100 main_cst
  let main_v2 : IVec S4096x100 1 := cmpf .olt main_v0 main_v1
  let main_c : IVec S_ 32 := constantI S_ 32 0#32
  let main_v3 : IVec S100 32 := broadcastInDim S100 ![] bcast_S_S100 main_c
  let main_v4 : IVec S100 1 := cmpi .sge main_arg1 main_v3
  let main_c_0 : IVec S_ 32 := constantI S_ 32 100#32
  let main_v5 : IVec S100 32 := broadcastInDim S100 ![] bcast_S_S100 main_c_0
  let main_v6 : IVec S100 1 := cmpi .slt main_arg1 main_v5
  let main_v7 : IVec S100 1 := andi main_v4 main_v6
  let main_c_1 : IVec S_ 32 := constantI S_ 32 0#32
  let main_v8 : IVec S100 32 := broadcastInDim S100 ![] bcast_S_S100 main_c_1
  let main_v9 : IVec S100 1 := cmpi .sge main_arg2 main_v8
  let main_c_2 : IVec S_ 32 := constantI S_ 32 8#32
  let main_v10 : IVec S100 32 := broadcastInDim S100 ![] bcast_S_S100 main_c_2
  let main_v11 : IVec S100 1 := cmpi .slt main_arg2 main_v10
  let main_v12 : IVec S100 1 := andi main_v9 main_v11
  let main_c_3 : IVec S_ 32 := constantI S_ 32 0#32
  let main_v13 : IVec S100 32 := broadcastInDim S100 ![] bcast_S_S100 main_c_3
  let main_v14 : IVec S100 1 := cmpi .sge main_arg3 main_v13
  let main_c_4 : IVec S_ 32 := constantI S_ 32 8#32
  let main_v15 : IVec S100 32 := broadcastInDim S100 ![] bcast_S_S100 main_c_4
  let main_v16 : IVec S100 1 := cmpi .slt main_arg3 main_v15
  fn_part1 (F := F) main_arg4 main_arg5 main_arg6 main_arg7 main_arg8 main_arg9 main_arg10 main_arg11 main_arg12 main_v2 main_v7 main_v12 main_v14 main_v16
-- ==== Kernel.lean ====
abbrev S4096x100 : Shape := ⟨2, ![4096, 100]⟩
abbrev S100 : Shape := ⟨1, ![100]⟩
abbrev S100x32 : Shape := ⟨2, ![100, 32]⟩
abbrev S8x16 : Shape := ⟨2, ![8, 16]⟩
abbrev S65x128 : Shape := ⟨2, ![65, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x409600 : Shape := ⟨2, ![1, 409600]⟩
abbrev S1x100 : Shape := ⟨2, ![1, 100]⟩
abbrev S32x100 : Shape := ⟨2, ![32, 100]⟩
abbrev S16x8 : Shape := ⟨2, ![16, 8]⟩
abbrev S1x128 : Shape := ⟨2, ![1, 128]⟩
abbrev S128x1 : Shape := ⟨2, ![128, 1]⟩
abbrev S32x128 : Shape := ⟨2, ![32, 128]⟩
abbrev S128x32 : Shape := ⟨2, ![128, 32]⟩
abbrev S16x128 : Shape := ⟨2, ![16, 128]⟩
abbrev S128x16 : Shape := ⟨2, ![128, 16]⟩
abbrev S1x64 : Shape := ⟨2, ![1, 64]⟩
abbrev S4096x100x64 : Shape := ⟨3, ![4096, 100, 64]⟩
abbrev S1x12800 : Shape := ⟨2, ![1, 12800]⟩
abbrev S128x100x64 : Shape := ⟨3, ![128, 100, 64]⟩
abbrev S128x12800 : Shape := ⟨2, ![128, 12800]⟩
abbrev S100x100 : Shape := ⟨2, ![100, 100]⟩
abbrev S8x100 : Shape := ⟨2, ![8, 100]⟩
abbrev S128x100 : Shape := ⟨2, ![128, 100]⟩
abbrev S16x100 : Shape := ⟨2, ![16, 100]⟩
abbrev S1 : Shape := ⟨1, ![1]⟩
abbrev S1x1 : Shape := ⟨2, ![1, 1]⟩
abbrev S100x12800 : Shape := ⟨2, ![100, 12800]⟩
abbrev S12800x64 : Shape := ⟨2, ![12800, 64]⟩

abbrev nBuf : Space → Nat
  | .hbm => 46
  | .vmem => 28
  | .smem => 0
  | _ => 0

abbrev bufTy : (tb : Table) → Fin (tcTables nBuf tb) → BufTy
  | .hbm, ⟨0, _⟩ => ⟨S4096x100, .f32⟩
  | .hbm, ⟨1, _⟩ => ⟨S100, .i32⟩
  | .hbm, ⟨2, _⟩ => ⟨S100, .i32⟩
  | .hbm, ⟨3, _⟩ => ⟨S100, .i32⟩
  | .hbm, ⟨4, _⟩ => ⟨S100x32, .f32⟩
  | .hbm, ⟨5, _⟩ => ⟨S8x16, .f32⟩
  | .hbm, ⟨6, _⟩ => ⟨S8x16, .f32⟩
  | .hbm, ⟨7, _⟩ => ⟨S65x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x409600, .f32⟩
  | .hbm, ⟨18, _⟩ => ⟨S1x100, .i32⟩
  | .hbm, ⟨19, _⟩ => ⟨S1x100, .i32⟩
  | .hbm, ⟨20, _⟩ => ⟨S1x100, .i32⟩
  | .hbm, ⟨21, _⟩ => ⟨S32x100, .f32⟩
  | .hbm, ⟨22, _⟩ => ⟨S16x8, .f32⟩
  | .hbm, ⟨23, _⟩ => ⟨S16x8, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S128x1, .f32⟩
  | .hbm, ⟨29, _⟩ => ⟨S32x128, .f32⟩
  | .hbm, ⟨30, _⟩ => ⟨S128x32, .f32⟩
  | .hbm, ⟨31, _⟩ => ⟨S16x128, .f32⟩
  | .hbm, ⟨32, _⟩ => ⟨S128x16, .f32⟩
  | .hbm, ⟨33, _⟩ => ⟨S16x128, .f32⟩
  | .hbm, ⟨34, _⟩ => ⟨S128x16, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x128, .f32⟩
  | .hbm, ⟨39, _⟩ => ⟨S128x128, .bf16⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S128x64, .bf16⟩
  | .hbm, ⟨44, _⟩ => ⟨S1x64, .f32⟩
  | .hbm, ⟨45, _⟩ => ⟨S4096x100x64, .f32⟩
  | .local _ .vmem, ⟨0, _⟩ => ⟨S1x12800, .f32⟩
  | .local _ .vmem, ⟨1, _⟩ => ⟨S1x12800, .f32⟩
  | .local _ .vmem, ⟨2, _⟩ => ⟨S1x100, .i32⟩
  | .local _ .vmem, ⟨3, _⟩ => ⟨S1x100, .i32⟩
  | .local _ .vmem, ⟨4, _⟩ => ⟨S1x100, .i32⟩
  | .local _ .vmem, ⟨5, _⟩ => ⟨S32x100, .f32⟩
  | .local _ .vmem, ⟨6, _⟩ => ⟨S16x8, .f32⟩
  | .local _ .vmem, ⟨7, _⟩ => ⟨S16x8, .f32⟩
  | .local _ .vmem, ⟨8, _⟩ => ⟨S1x128, .f32⟩
  | .local _ .vmem, ⟨9, _⟩ => ⟨S128x1, .f32⟩
  | .local _ .vmem, ⟨10, _⟩ => ⟨S128x32, .f32⟩
  | .local _ .vmem, ⟨11, _⟩ => ⟨S128x16, .f32⟩
  | .local _ .vmem, ⟨12, _⟩ => ⟨S128x16, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x128, .bf16⟩
  | .local _ .vmem, ⟨17, _⟩ => ⟨S128x1, .f32⟩
  | .local _ .vmem, ⟨18, _⟩ => ⟨S128x1, .f32⟩
  | .local _ .vmem, ⟨19, _⟩ => ⟨S128x1, .f32⟩
  | .local _ .vmem, ⟨20, _⟩ => ⟨S128x64, .bf16⟩
  | .local _ .vmem, ⟨21, _⟩ => ⟨S1x64, .f32⟩
  | .local _ .vmem, ⟨22, _⟩ => ⟨S128x100x64, .f32⟩
  | .local _ .vmem, ⟨23, _⟩ => ⟨S128x100x64, .f32⟩
  | .local _ .vmem, ⟨24, _⟩ => ⟨S128x12800, .f32⟩
  | .local _ .vmem, ⟨25, _⟩ => ⟨S1x12800, .f32⟩
  | .local _ .vmem, ⟨26, _⟩ => ⟨S1x12800, .f32⟩
  | .local _ .vmem, ⟨27, _⟩ => ⟨S1x12800, .f32⟩
  | _, _ => ⟨S4096x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x100x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S4096x100 : Shape := ⟨2, ![4096, 100]⟩
abbrev S100 : Shape := ⟨1, ![100]⟩
abbrev S100x32 : Shape := ⟨2, ![100, 32]⟩
abbrev S8x16 : Shape := ⟨2, ![8, 16]⟩
abbrev S65x128 : Shape := ⟨2, ![65, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S4096x100x1 : Shape := ⟨3, ![4096, 100, 1]⟩
abbrev S_ : Shape := ⟨0, ![]⟩
abbrev S100x1 : Shape := ⟨2, ![100, 1]⟩
abbrev S1 : Shape := ⟨1, ![1]⟩
abbrev S1x1 : Shape := ⟨2, ![1, 1]⟩
abbrev S100x16 : Shape := ⟨2, ![100, 16]⟩
abbrev S1x100x32 : Shape := ⟨3, ![1, 100, 32]⟩
abbrev S4096x100x32 : Shape := ⟨3, ![4096, 100, 32]⟩
abbrev S1x100x16 : Shape := ⟨3, ![1, 100, 16]⟩
abbrev S4096x100x16 : Shape := ⟨3, ![4096, 100, 16]⟩
abbrev S4096x100x65 : Shape := ⟨3, ![4096, 100, 65]⟩
abbrev S4096x100x128 : Shape := ⟨3, ![4096, 100, 128]⟩
abbrev S1x1x128 : Shape := ⟨3, ![1, 1, 128]⟩
abbrev S4096x100x64 : Shape := ⟨3, ![4096, 100, 64]⟩
abbrev S1x1x64 : Shape := ⟨3, ![1, 1, 64]⟩

abbrev nBuf : Space → Nat
  | .hbm => 200
  | .vmem => 0
  | .smem => 0
  | _ => 0

abbrev hbmTy0_0 (i : Nat) : BufTy := match i % 128 with
  | 0 => ⟨S4096x100, .f32⟩
  | 1 => ⟨S100, .i32⟩
  | 2 => ⟨S100, .i32⟩
  | 3 => ⟨S100, .i32⟩
  | 4 => ⟨S100x32, .f32⟩
  | 5 => ⟨S8x16, .f32⟩
  | 6 => ⟨S8x16, .f32⟩
  | 7 => ⟨S65x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S4096x100x1, .f32⟩
  | 18 => ⟨S_, .i32⟩
  | 19 => ⟨S100, .i32⟩
  | 20 => ⟨S100, .i1⟩
  | 21 => ⟨S_, .i32⟩
  | 22 => ⟨S100, .i32⟩
  | 23 => ⟨S100, .i32⟩
  | 24 => ⟨S100, .i32⟩
  | 25 => ⟨S100x1, .i32⟩
  | 26 => ⟨S1, .i32⟩
  | 27 => ⟨S_, .i32⟩
  | 28 => ⟨S100x1, .i32⟩
  | 29 => ⟨S100x1, .i1⟩
  | 30 => ⟨S1x1, .i32⟩
  | 31 => ⟨S100x1, .i32⟩
  | 32 => ⟨S100x1, .i1⟩
  | 33 => ⟨S100x1, .i1⟩
  | 34 => ⟨S_, .i1⟩
  | 35 => ⟨S100, .i1⟩
  | 36 => ⟨S100x32, .f32⟩
  | 37 => ⟨S100x32, .i1⟩
  | 38 => ⟨S_, .f32⟩
  | 39 => ⟨S100x32, .f32⟩
  | 40 => ⟨S100x32, .f32⟩
  | 41 => ⟨S_, .i32⟩
  | 42 => ⟨S100, .i32⟩
  | 43 => ⟨S100, .i1⟩
  | 44 => ⟨S_, .i32⟩
  | 45 => ⟨S100, .i32⟩
  | 46 => ⟨S100, .i32⟩
  | 47 => ⟨S100, .i32⟩
  | 48 => ⟨S100x1, .i32⟩
  | 49 => ⟨S1, .i32⟩
  | 50 => ⟨S_, .i32⟩
  | 51 => ⟨S100x1, .i32⟩
  | 52 => ⟨S100x1, .i1⟩
  | 53 => ⟨S1x1, .i32⟩
  | 54 => ⟨S100x1, .i32⟩
  | 55 => ⟨S100x1, .i1⟩
  | 56 => ⟨S100x1, .i1⟩
  | 57 => ⟨S_, .i1⟩
  | 58 => ⟨S100, .i1⟩
  | 59 => ⟨S100x16, .f32⟩
  | 60 => ⟨S100x16, .i1⟩
  | 61 => ⟨S_, .f32⟩
  | 62 => ⟨S100x16, .f32⟩
  | 63 => ⟨S100x16, .f32⟩
  | 64 => ⟨S_, .i32⟩
  | 65 => ⟨S100, .i32⟩
  | 66 => ⟨S100, .i1⟩
  | 67 => ⟨S_, .i32⟩
  | 68 => ⟨S100, .i32⟩
  | 69 => ⟨S100, .i32⟩
  | 70 => ⟨S100, .i32⟩
  | 71 => ⟨S100x1, .i32⟩
  | 72 => ⟨S1, .i32⟩
  | 73 => ⟨S_, .i32⟩
  | 74 => ⟨S100x1, .i32⟩
  | 75 => ⟨S100x1, .i1⟩
  | 76 => ⟨S1x1, .i32⟩
  | 77 => ⟨S100x1, .i32⟩
  | 78 => ⟨S100x1, .i1⟩
  | 79 => ⟨S100x1, .i1⟩
  | 80 => ⟨S_, .i1⟩
  | 81 => ⟨S100, .i1⟩
  | 82 => ⟨S100x16, .f32⟩
  | 83 => ⟨S100x16, .i1⟩
  | 84 => ⟨S_, .f32⟩
  | 85 => ⟨S100x16, .f32⟩
  | 86 => ⟨S100x16, .f32⟩
  | 87 => ⟨S1x100x32, .f32⟩
  | 88 => ⟨S4096x100x32, .f32⟩
  | 89 => ⟨S1x100x16, .f32⟩
  | 90 => ⟨S4096x100x16, .f32⟩
  | 91 => ⟨S1x100x16, .f32⟩
  | 92 => ⟨S4096x100x16, .f32⟩
  | 93 => ⟨S4096x100x65, .f32⟩
  | 94 => ⟨S4096x100x128, .f32⟩
  | 95 => ⟨S1x1x128, .f32⟩
  | 96 => ⟨S4096x100x128, .f32⟩
  | 97 => ⟨S4096x100x128, .f32⟩
  | 98 => ⟨S_, .f32⟩
  | 99 => ⟨S4096x100, .f32⟩
  | 100 => ⟨S4096x100x1, .f32⟩
  | 101 => ⟨S_, .f32⟩
  | 102 => ⟨S4096x100x1, .f32⟩
  | 103 => ⟨S4096x100x1, .f32⟩
  | 104 => ⟨S_, .i32⟩
  | 105 => ⟨S_, .f32⟩
  | 106 => ⟨S4096x100, .f32⟩
  | 107 => ⟨S4096x100x1, .f32⟩
  | 108 => ⟨S_, .f32⟩
  | 109 => ⟨S4096x100x1, .f32⟩
  | 110 => ⟨S4096x100x1, .f32⟩
  | 111 => ⟨S4096x100x128, .f32⟩
  | 112 => ⟨S4096x100x128, .f32⟩
  | 113 => ⟨S4096x100x128, .f32⟩
  | 114 => ⟨S_, .f32⟩
  | 115 => ⟨S_, .f32⟩
  | 116 => ⟨S_, .f32⟩
  | 117 => ⟨S_, .f32⟩
  | 118 => ⟨S4096x100, .f32⟩
  | 119 => ⟨S4096x100x1, .f32⟩
  | 120 => ⟨S4096x100x1, .f32⟩
  | 121 => ⟨S4096x100x1, .f32⟩
  | 122 => ⟨S_, .f32⟩
  | 123 => ⟨S_, .i1⟩
  | 124 => ⟨S_, .f32⟩
  | 125 => ⟨S_, .f32⟩
  | 126 => ⟨S4096x100x1, .f32⟩
  | 127 => ⟨S4096x100x1, .f32⟩
  | _ => ⟨S4096x100, .f32⟩

abbrev hbmTy0_1 (i : Nat) : BufTy := match i % 128 with
  | 0 => ⟨S4096x100x128, .f32⟩
  | 1 => ⟨S4096x100x128, .f32⟩
  | 2 => ⟨S_, .f32⟩
  | 3 => ⟨S4096x100x1, .f32⟩
  | 4 => ⟨S4096x100x1, .f32⟩
  | 5 => ⟨S4096x100x1, .f32⟩
  | 6 => ⟨S4096x100x128, .f32⟩
  | 7 => ⟨S4096x100x128, .f32⟩
  | 8 => ⟨S1x1x128, .f32⟩
  | 9 => ⟨S4096x100x128, .f32⟩
  | 10 => ⟨S4096x100x128, .f32⟩
  | 11 => ⟨S1x1x128, .f32⟩
  | 12 => ⟨S4096x100x128, .f32⟩
  | 13 => ⟨S4096x100x128, .f32⟩
  | 14 => ⟨S_, .f32⟩
  | 15 => ⟨S4096x100x128, .f32⟩
  | 16 => ⟨S4096x100x128, .f32⟩
  | 17 => ⟨S4096x100x128, .f32⟩
  | 18 => ⟨S1x1x128, .f32⟩
  | 19 => ⟨S4096x100x128, .f32⟩
  | 20 => ⟨S4096x100x128, .f32⟩
  | 21 => ⟨S_, .f32⟩
  | 22 => ⟨S4096x100, .f32⟩
  | 23 => ⟨S4096x100x1, .f32⟩
  | 24 => ⟨S_, .f32⟩
  | 25 => ⟨S4096x100x1, .f32⟩
  | 26 => ⟨S4096x100x1, .f32⟩
  | 27 => ⟨S_, .i32⟩
  | 28 => ⟨S_, .f32⟩
  | 29 => ⟨S4096x100, .f32⟩
  | 30 => ⟨S4096x100x1, .f32⟩
  | 31 => ⟨S_, .f32⟩
  | 32 => ⟨S4096x100x1, .f32⟩
  | 33 => ⟨S4096x100x1, .f32⟩
  | 34 => ⟨S4096x100x128, .f32⟩
  | 35 => ⟨S4096x100x128, .f32⟩
  | 36 => ⟨S4096x100x128, .f32⟩
  | 37 => ⟨S_, .f32⟩
  | 38 => ⟨S_, .f32⟩
  | 39 => ⟨S_, .f32⟩
  | 40 => ⟨S_, .f32⟩
  | 41 => ⟨S4096x100, .f32⟩
  | 42 => ⟨S4096x100x1, .f32⟩
  | 43 => ⟨S4096x100x1, .f32⟩
  | 44 => ⟨S4096x100x1, .f32⟩
  | 45 => ⟨S_, .f32⟩
  | 46 => ⟨S_, .i1⟩
  | 47 => ⟨S_, .f32⟩
  | 48 => ⟨S_, .f32⟩
  | 49 => ⟨S4096x100x1, .f32⟩
  | 50 => ⟨S4096x100x1, .f32⟩
  | 51 => ⟨S4096x100x128, .f32⟩
  | 52 => ⟨S4096x100x128, .f32⟩
  | 53 => ⟨S_, .f32⟩
  | 54 => ⟨S4096x100x1, .f32⟩
  | 55 => ⟨S4096x100x1, .f32⟩
  | 56 => ⟨S4096x100x1, .f32⟩
  | 57 => ⟨S4096x100x128, .f32⟩
  | 58 => ⟨S4096x100x128, .f32⟩
  | 59 => ⟨S1x1x128, .f32⟩
  | 60 => ⟨S4096x100x128, .f32⟩
  | 61 => ⟨S4096x100x128, .f32⟩
  | 62 => ⟨S1x1x128, .f32⟩
  | 63 => ⟨S4096x100x128, .f32⟩
  | 64 => ⟨S4096x100x128, .f32⟩
  | 65 => ⟨S_, .f32⟩
  | 66 => ⟨S4096x100x128, .f32⟩
  | 67 => ⟨S4096x100x128, .f32⟩
  | 68 => ⟨S4096x100x64, .f32⟩
  | 69 => ⟨S1x1x64, .f32⟩
  | 70 => ⟨S4096x100x64, .f32⟩
  | 71 => ⟨S4096x100x64, .f32⟩
  | _ => ⟨S4096x100, .f32⟩

abbrev hbmTy (i : Nat) : BufTy := match i / 128 with
  | 0 => hbmTy0_0 i
  | 1 => hbmTy0_1 i
  | _ => ⟨S4096x100, .f32⟩

abbrev bufTy : (tb : Table) → Fin (tcTables nBuf tb) → BufTy
  | .hbm, ⟨i, _⟩ => hbmTy i
  | _, _ => ⟨S4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v1 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v2 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v3 : Ref sig .tc := ⟨.hbm, 86, rfl⟩
abbrev main_v4 : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_v8 : Ref sig .tc := ⟨.hbm, 91, rfl⟩
abbrev main_v9 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_cst : Ref sig .tc := ⟨.hbm, 98, rfl⟩
abbrev main_v15 : Ref sig .tc := ⟨.hbm, 99, rfl⟩
abbrev main_v16 : Ref sig .tc := ⟨.hbm, 100, rfl⟩
abbrev main_cst_0 : Ref sig .tc := ⟨.hbm, 101, rfl⟩
abbrev main_v17 : Ref sig .tc := ⟨.hbm, 102, rfl⟩
abbrev main_v18 : Ref sig .tc := ⟨.hbm, 103, rfl⟩
abbrev main_c : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_cst_1 : Ref sig .tc := ⟨.hbm, 115, rfl⟩
abbrev main_call3_v8 : Ref sig .tc := ⟨.hbm, 116, rfl⟩
abbrev main_call3_cst_2 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_v12 : Ref sig .tc := ⟨.hbm, 121, rfl⟩
abbrev main_call3_cst_3 : Ref sig .tc := ⟨.hbm, 122, rfl⟩
abbrev main_call3_v13 : Ref sig .tc := ⟨.hbm, 123, rfl⟩
abbrev main_call3_cst_4 : Ref sig .tc := ⟨.hbm, 124, rfl⟩
abbrev main_call3_call0_v0 : Ref sig .tc := ⟨.hbm, 125, rfl⟩
abbrev main_call3_call0_v1 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_cst_1 : Ref sig .tc := ⟨.hbm, 130, rfl⟩
abbrev main_v22 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call4_cst : Ref sig .tc := ⟨.hbm, 142, rfl⟩
abbrev main_call4_v0 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_cst_2 : Ref sig .tc := ⟨.hbm, 149, rfl⟩
abbrev main_v38 : Ref sig .tc := ⟨.hbm, 150, rfl⟩
abbrev main_v39 : Ref sig .tc := ⟨.hbm, 151, rfl⟩
abbrev main_cst_3 : Ref sig .tc := ⟨.hbm, 152, rfl⟩
abbrev main_v40 : Ref sig .tc := ⟨.hbm, 153, rfl⟩
abbrev main_v41 : Ref sig .tc := ⟨.hbm, 154, rfl⟩
abbrev main_c_4 : Ref sig .tc := ⟨.hbm, 155, rfl⟩
abbrev main_call5_cst : Ref sig .tc := ⟨.hbm, 156, rfl⟩
abbrev main_call5_v0 : Ref sig .tc := ⟨.hbm, 157, rfl⟩
abbrev main_call5_v1 : Ref sig .tc := ⟨.hbm, 158, rfl⟩
abbrev main_call5_cst_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_v6 : Ref sig .tc := ⟨.hbm, 164, rfl⟩
abbrev main_call5_v7 : Ref sig .tc := ⟨.hbm, 165, rfl⟩
abbrev main_call5_cst_1 : Ref sig .tc := ⟨.hbm, 166, rfl⟩
abbrev main_call5_v8 : Ref sig .tc := ⟨.hbm, 167, rfl⟩
abbrev main_call5_cst_2 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_v12 : Ref sig .tc := ⟨.hbm, 172, rfl⟩
abbrev main_call5_cst_3 : Ref sig .tc := ⟨.hbm, 173, rfl⟩
abbrev main_call5_v13 : Ref sig .tc := ⟨.hbm, 174, rfl⟩
abbrev main_call5_cst_4 : Ref sig .tc := ⟨.hbm, 175, rfl⟩
abbrev main_call5_call0_v0 : Ref sig .tc := ⟨.hbm, 176, rfl⟩
abbrev main_call5_call0_v1 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_cst_5 : Ref sig .tc := ⟨.hbm, 181, rfl⟩
abbrev main_v45 : Ref sig .tc := ⟨.hbm, 182, rfl⟩
abbrev main_v46 : Ref sig .tc := ⟨.hbm, 183, rfl⟩
abbrev main_v47 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_call6_cst : Ref sig .tc := ⟨.hbm, 193, rfl⟩
abbrev main_call6_v0 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩

abbrev nD : Nat := 1
abbrev τ : Topo := Topo.v7x

variable {F : FTy → Type} [FloatOps F]
-- ==== Proof.KernelRun.RunA.lean ====
/-
The whole body of the kernel over exact numbers at the first grid point, where the scratch tables are filled.
The text is that of the generated module of the same name, under a larger budget for the whole-body run.
-/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces. -/
noncomputable def kernelRun0_A (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) :
    Σ' (L21 : List (View.Piece (Elt F) S128x100x64 .f32)), Σ' (LS0 : List (View.Piece (Elt F) S128x12800 .f32)), Σ' (LS1 : List (View.Piece (Elt F) S1x12800 .f32)), Σ' (LS2 : List (View.Piece (Elt F) S1x12800 .f32)), { LS3 : List (View.Piece (Elt F) S1x12800 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3)) -∗ K ⟨⟩))
          ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, fun E K => ?run⟩
  case run =>
    simp only [cc0__encoder_kernel_eq_skeleton]; unfold cc0__encoder_kernel_skel
    simp only [k0_part3_eq_skeleton, k0_part1_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [HS0]; · iexists _; iexact HS0
    isplitl [HS1]; · iexists _; iexact HS1
    isplitl [HS2]; · iexists _; iexact HS2
    iexists _; iexact HS3

end Cert.KernelIdeal.Gen

end
-- ==== Proof.KernelRun.RunB.lean ====
/-
The whole body of the kernel over exact numbers at every later grid point, where the scratch tables are read only.
The text is that of the generated module of the same name, under a larger budget for the whole-body run.
-/
module

public import proofs.«01_k».proof.Proof.KernelRun.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces. -/
noncomputable def kernelRun0_B (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) :
    Σ' (L21 : List (View.Piece (Elt F) S128x100x64 .f32)), Σ' (LS0 : List (View.Piece (Elt F) S128x12800 .f32)), Σ' (LS1 : List (View.Piece (Elt F) S1x12800 .f32)), Σ' (LS2 : List (View.Piece (Elt F) S1x12800 .f32)), { LS3 : List (View.Piece (Elt F) S1x12800 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ owns (c : Thread nD τ) arg23 fullShare xs0 ∗ owns (c : Thread nD τ) arg24 fullShare xs1 ∗ owns (c : Thread nD τ) arg25 fullShare xs2 ∗ owns (c : Thread nD τ) arg26 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ owns (c : Thread nD τ) arg23 fullShare xs0 ∗ owns (c : Thread nD τ) arg24 fullShare xs1 ∗ owns (c : Thread nD τ) arg25 fullShare xs2 ∗ owns (c : Thread nD τ) arg26 fullShare xs3) -∗ K ⟨⟩))
          ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, [], [], [], [], fun E K => ?run⟩
  case run =>
    simp only [cc0__encoder_kernel_eq_skeleton]; unfold cc0__encoder_kernel_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg23.eq_unread hfs0; obtain rfl := harg24.eq_unread hfs1; obtain rfl := harg25.eq_unread hfs2; obtain rfl := harg26.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    iexists _; isplitr; · ipureintro; exact harg26.read_unread _
    iexact HS3

end Cert.KernelIdeal.Gen

end
-- ==== Proof.KernelRun.Frame.lean ====
/-
The frame of the kernel over exact numbers: every run ends, the arguments end unchanged.
The text is that of the generated module of the same name, under a larger budget for the whole-body run.
-/
module

public import proofs.«01_k».proof.Proof.KernelRun.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 21 tile its block. -/
theorem cover0_A_21 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (y : S128x100x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).1 S128x100x64.size (by sl_kernel_rfl) y

/-- What case A leaves in output 21's staging buffer. -/
def out0_A_21 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) : Vec F S128x100x64 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).1)

/-- Case A's pieces for scratch `arg23`, which the kernel carries between points, cover it. -/
theorem scover0_A_0 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (y : S128x12800.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.1 S128x12800.size (by sl_kernel_rfl) y

/-- What case A leaves in scratch `arg23`. -/
def sout0_A_0 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) : Vec F S128x12800 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.1)

/-- Case A's pieces for scratch `arg24`, which the kernel carries between points, cover it. -/
theorem scover0_A_1 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (y : S1x12800.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.1 S1x12800.size (by sl_kernel_rfl) y

/-- What case A leaves in scratch `arg24`. -/
def sout0_A_1 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) : Vec F S1x12800 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.1)

/-- Case A's pieces for scratch `arg25`, which the kernel carries between points, cover it. -/
theorem scover0_A_2 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (y : S1x12800.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.1 S1x12800.size (by sl_kernel_rfl) y

/-- What case A leaves in scratch `arg25`. -/
def sout0_A_2 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) : Vec F S1x12800 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.1)

/-- Case A's pieces for scratch `arg26`, which the kernel carries between points, cover it. -/
theorem scover0_A_3 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (y : S1x12800.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.2.1 S1x12800.size (by sl_kernel_rfl) y

/-- What case A leaves in scratch `arg26`. -/
def sout0_A_3 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) : Vec F S1x12800 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20).2.2.2.2.1)

/-- Case B's pieces for output 21 tile its block. -/
theorem cover0_B_21 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) (y : S128x100x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 xs3).1 S128x100x64.size (by sl_kernel_rfl) y

/-- What case B leaves in output 21's staging buffer. -/
def out0_B_21 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) : Vec F S128x100x64 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 xs3).1)

/-- Case B stores nothing into scratch `arg23`. -/
def sout0_B_0 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) : Vec F S128x12800 .f32 := xs0

/-- Case B stores nothing into scratch `arg24`. -/
def sout0_B_1 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) : Vec F S1x12800 .f32 := xs1

/-- Case B stores nothing into scratch `arg25`. -/
def sout0_B_2 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) : Vec F S1x12800 .f32 := xs2

/-- Case B stores nothing into scratch `arg26`. -/
def sout0_B_3 (c : Dev nD) (i : grid0.Coords) (arg1 : Memref sig .tc .vmem S1x12800 .f32) (harg1 : arg1.IsWhole) (arg2 : Memref sig .tc .vmem S1x100 .i32) (harg2 : arg2.IsWhole) (arg3 : Memref sig .tc .vmem S1x100 .i32) (harg3 : arg3.IsWhole) (arg4 : Memref sig .tc .vmem S1x100 .i32) (harg4 : arg4.IsWhole) (arg5 : Memref sig .tc .vmem S32x100 .f32) (harg5 : arg5.IsWhole) (arg6 : Memref sig .tc .vmem S16x8 .f32) (harg6 : arg6.IsWhole) (arg7 : Memref sig .tc .vmem S16x8 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x32 .f32) (harg10 : arg10.IsWhole) (arg11 : Memref sig .tc .vmem S128x16 .f32) (harg11 : arg11.IsWhole) (arg12 : Memref sig .tc .vmem S128x16 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .bf16) (harg16 : arg16.IsWhole) (arg17 : Memref sig .tc .vmem S128x1 .f32) (harg17 : arg17.IsWhole) (arg18 : Memref sig .tc .vmem S128x1 .f32) (harg18 : arg18.IsWhole) (arg19 : Memref sig .tc .vmem S128x1 .f32) (harg19 : arg19.IsWhole) (arg20 : Memref sig .tc .vmem S128x64 .bf16) (harg20 : arg20.IsWhole) (arg21 : Memref sig .tc .vmem S1x64 .f32) (harg21 : arg21.IsWhole) (arg22 : Memref sig .tc .vmem S128x100x64 .f32) (harg22 : arg22.IsWhole) (arg23 : Memref sig .tc .vmem S128x12800 .f32) (harg23 : arg23.IsWhole) (arg24 : Memref sig .tc .vmem S1x12800 .f32) (harg24 : arg24.IsWhole) (arg25 : Memref sig .tc .vmem S1x12800 .f32) (harg25 : arg25.IsWhole) (arg26 : Memref sig .tc .vmem S1x12800 .f32) (harg26 : arg26.IsWhole) (hc0 : ¬cond0_0 i)
    (x0 : Vec F S1x12800 .f32) (x1 : Vec F S1x100 .i32) (x2 : Vec F S1x100 .i32) (x3 : Vec F S1x100 .i32) (x4 : Vec F S32x100 .f32) (x5 : Vec F S16x8 .f32) (x6 : Vec F S16x8 .f32) (x7 : Vec F S1x128 .f32) (x8 : Vec F S128x1 .f32) (x9 : Vec F S128x32 .f32) (x10 : Vec F S128x16 .f32) (x11 : Vec F S128x16 .f32) (x12 : Vec F S128x1 .f32) (x13 : Vec F S128x1 .f32) (x14 : Vec F S128x1 .f32) (x15 : Vec F S128x128 .bf16) (x16 : Vec F S128x1 .f32) (x17 : Vec F S128x1 .f32) (x18 : Vec F S128x1 .f32) (x19 : Vec F S128x64 .bf16) (x20 : Vec F S1x64 .f32) (xs0 : Vec F S128x12800 .f32) (xs1 : Vec F S1x12800 .f32) (xs2 : Vec F S1x12800 .f32) (xs3 : Vec F S1x12800 .f32) : Vec F S1x12800 .f32 := xs3

/-- THE ACCUMULATION. -/
def outsAt0 (c : Dev nD) : (n : ℕ) → n < cfg0.N → Vec F S128x100x64 .f32 × Vec F S128x12800 .f32 × Vec F S1x12800 .f32 × Vec F S1x12800 .f32 × Vec F S1x12800 .f32
  | 0, hn => (out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩))
  | n + 1, hn =>
    if h0 : (n + 1) % 32 = 0 then
      (out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩))
    else
      (out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A. -/
theorem outsAt0_A (c : Dev nD) (t : Fin cfg0.N) (h0 : t.val % 32 = 0) :
    outsAt0 m c t.val t.isLt = (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  obtain ⟨n, hn⟩ := t
  cases n with
  | zero => exact rfl
  | succ n => exact (dif_pos h0).trans rfl

/-- `outsAt0` at a point of case B. -/
theorem outsAt0_B (c : Dev nD) (t : Fin cfg0.N) (h0 : ¬t.val % 32 = 0) :
    outsAt0 m c t.val t.isLt = (out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨_ + 22, h⟩ => absurd h (Nat.not_lt.2 (Nat.le_add_left _ _))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 19200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_21 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, ⟨%e21, H21⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_21 sout0_B_0 sout0_B_1 sout0_B_2 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, ⟨%e21, H21⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      unfold owns; iexists _; isplitr
      swap; · iexact H21
      ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- THE LAUNCH. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.KernelRun.Blocks.lean ====
/-
What each grid point of the kernel over exact numbers writes back, and the array after the run.
The text is that of the generated module of the same name, under a larger budget for the whole-body run.
-/
module

public import proofs.«01_k».proof.Proof.KernelRun.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 21's array. -/
theorem flushed21 (c : Dev nD) (t : Fin cfg0.N) :
    (dats m 0 c).flushed 21 t = (cfg0.win 21).cut (grid0.coords t) ((outsAt0 m c t.val t.isLt).1) := by
  show (cfg0.win 21).cut (grid0.coords t) ((dats m 0 c).after 21 t) = _
  rw [after0_21]

/-- The index map sends distinct grid points to distinct block indices. -/
theorem idx_inj21 : ∀ t t' : Fin cfg0.N, win0_21.index t = win0_21.index t' → t = t' :=
  (by decide +kernel : ∀ t t' : Fin grid0.N, win0_21.index t = win0_21.index t' → t = t')

/-- So two flushing points' blocks share no array index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v28) = (dats m 0 c).arrAt 21 cfg0.N :=
  (h c).1 21

/-- After the frame run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —, the arguments unchanged. -/
theorem run_blocks : θ_run defs (onTc (τ := τ) (main (F := F))) ⟨m, fun _ => 0, ρ⟩ fun r => ∀ c : Dev nD,
      r.2.mem ((c : Thread nD τ).loc main_v28) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.KernelIdeal.Value

end
-- ==== Proof.Encoder.Points.lean ====
/-
What the kernel's scratch arrays and its output block hold at a grid point, as the payloads of the program's stores: the
first point fills the four scratch arrays from its constant blocks, every later point keeps them, and every point's output
block is the body's payload of its blocks and the scratch.
-/
module

public import proofs.«01_k».proof.Proof.KernelRun.Blocks

@[expose] public section

set_option maxRecDepth 16384

noncomputable section

namespace Cert.Encoder

open Cert.KernelIdeal Cert.KernelIdeal.Gen Idealize.ShloMosaic Idealize.ShloMosaic.TcCoe Idealize.SL.Sem
open Idealize.ShloMosaic.Tactic

variable {F : FTy → Type} [FloatOps F]
variable (m : (ℓ : Loc nD τ sig) → Buf (Elt F) ℓ)

theorem off2 : (![0, 0] : Fin 2 → ℕ) = fun _ => 0 := by funext i; fin_cases i <;> rfl
theorem off3 : (![0, 0, 0] : Fin 3 → ℕ) = fun _ => 0 := by funext i; fin_cases i <;> rfl

/-- The one-hot columns of the third table at the blocks of a point. -/
abbrev hotQ (c : Dev nD) (t : Fin cfg0.N) : FVec F S8x100 .f32 := k0_pay2 (iblk m c 3 t)
/-- The first two tables' part at the blocks of a point. -/
abbrev partNP (c : Dev nD) (t : Fin cfg0.N) : FVec F S128x100 .f32 :=
  k0_pay3 (iblk m c 1 t) (iblk m c 2 t) (iblk m c 9 t) (iblk m c 4 t) (iblk m c 10 t) (iblk m c 5 t)
/-- The third table's weight at the blocks of a point. -/
abbrev wtQ (c : Dev nD) (t : Fin cfg0.N) : FVec F S128x16 .f32 := k0_pay4 (iblk m c 11 t)
/-- The third table at the blocks of a point. -/
abbrev tabQ (c : Dev nD) (t : Fin cfg0.N) : FVec F S16x8 .f32 := k0_pay5 (iblk m c 6 t)

/-- What the prologue stores in the first scratch array. -/
def fill0 (c : Dev nD) (t : Fin cfg0.N) : Vec F S128x12800 .f32 :=
  k0_pay11 (hotQ m c t) (partNP m c t) (wtQ m c t) (tabQ m c t) (iblk m c 12 t) (iblk m c 13 t)
/-- What the prologue stores in the second scratch array. -/
def fill1 (c : Dev nD) (t : Fin cfg0.N) : Vec F S1x12800 .f32 :=
  k0_pay13 (k0_pay7 (k0_pay12 (F := F)) (hotQ m c t) (partNP m c t) (wtQ m c t) (tabQ m c t) (iblk m c 12 t))
    (k0_pay10 (F := F)) (constant S1x12800 .f32 0x00000000#32)
/-- What the prologue stores in the third scratch array. -/
def fill2 (c : Dev nD) (t : Fin cfg0.N) : Vec F S1x12800 .f32 :=
  k0_pay14 (k0_pay8 (k0_pay12 (F := F)) (hotQ m c t) (partNP m c t) (wtQ m c t) (tabQ m c t) (iblk m c 12 t) (iblk m c 7 t))
    (k0_pay10 (F := F))
/-- What the prologue stores in the fourth scratch array. -/
def fill3 (c : Dev nD) (t : Fin cfg0.N) : Vec F S1x12800 .f32 :=
  k0_pay15 (k0_pay9 (k0_pay12 (F := F)) (hotQ m c t) (partNP m c t) (wtQ m c t) (tabQ m c t) (iblk m c 12 t))
    (k0_pay10 (F := F))

/-- What the body stores in its output block, from the blocks of a point and the four scratch arrays. -/
def bodyOut (c : Dev nD) (t : Fin cfg0.N) (s0 : Vec F S128x12800 .f32) (s1 s2 s3 : Vec F S1x12800 .f32) :
    Vec F S128x100x64 .f32 :=
  k0_pay1
    (k0_pay22 (k0_pay12 (F := F)) (k0_pay19 (iblk m c 7 t) (iblk m c 0 t) s2 s3)
      (k0_pay20 (iblk m c 7 t) (iblk m c 0 t) s1 s2 s3) (k0_pay21 (iblk m c 0 t) (iblk m c 8 t)) s0 (iblk m c 13 t)
      (iblk m c 14 t) (iblk m c 15 t) (iblk m c 16 t) (iblk m c 17 t) (iblk m c 18 t))
    (iblk m c 19 t) (iblk m c 20 t)

/-- The first point leaves `fill0` in scratch array 0. -/
theorem scratch0_first (c : Dev nD) (t : Fin cfg0.N) (h0 : t.val % 32 = 0) :
    (outsAt0 m c t.val t.isLt).2.1 = fill0 m c t := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread]
  rw [View.canon_unit_zero off2]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2]
  rfl

/-- The first point leaves `fill1` in scratch array 1. -/
theorem scratch1_first (c : Dev nD) (t : Fin cfg0.N) (h0 : t.val % 32 = 0) :
    (outsAt0 m c t.val t.isLt).2.2.1 = fill1 m c t := by
  rw [outsAt0_A m c t h0]
  dsimp only
  unfold sout0_A_1
  rw [View.read_writes_eq_canon _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread]
  rw [View.canon_unit_zero off2]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2]
  rfl

/-- The first point leaves `fill2` in scratch array 2. -/
theorem scratch2_first (c : Dev nD) (t : Fin cfg0.N) (h0 : t.val % 32 = 0) :
    (outsAt0 m c t.val t.isLt).2.2.2.1 = fill2 m c t := by
  rw [outsAt0_A m c t h0]
  dsimp only
  unfold sout0_A_2
  rw [View.read_writes_eq_canon _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread]
  rw [View.canon_unit_zero off2]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2]
  rfl

/-- The first point leaves `fill3` in scratch array 3. -/
theorem scratch3_first (c : Dev nD) (t : Fin cfg0.N) (h0 : t.val % 32 = 0) :
    (outsAt0 m c t.val t.isLt).2.2.2.2 = fill3 m c t := by
  rw [outsAt0_A m c t h0]
  dsimp only
  unfold sout0_A_3
  rw [View.read_writes_eq_canon _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread]
  rw [View.canon_unit_zero off2]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2]
  rfl

/-- The first point's output block is the body's, over the scratch it has just filled. -/
theorem out_first (c : Dev nD) (t : Fin cfg0.N) (h0 : t.val % 32 = 0) :
    (outsAt0 m c t.val t.isLt).1 = bodyOut m c t (fill0 m c t) (fill1 m c t) (fill2 m c t) (fill3 m c t) := by
  rw [outsAt0_A m c t h0]
  dsimp only
  unfold out0_A_21
  rw [View.read_writes_eq_canon _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread]
  rw [View.canon_unit_zero off3]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2, View.ld_unit_zero (S := S1x12800) off2, View.ld_unit_zero (S := S128x12800) off2,
    View.ld_unit_zero (S := S128x128) off2, View.ld_unit_zero (S := S128x64) off2, View.ld_unit_zero (S := S1x64) off2,
    View.readCov_unit_zero (S := S128x12800) _ off2, View.readCov_unit_zero (S := S1x12800) _ off2]
  rfl

theorem scM_whole0 : scM0_0.IsWhole := Memref.isWhole_whole _

theorem scM_whole1 : scM0_1.IsWhole := Memref.isWhole_whole _

theorem scM_whole2 : scM0_2.IsWhole := Memref.isWhole_whole _

theorem scM_whole3 : scM0_3.IsWhole := Memref.isWhole_whole _

/-- A later point's output block is the body's, over the scratch the point before left. -/
theorem out_next (c : Dev nD) (n : ℕ) (hn : n + 1 < cfg0.N) (h0 : ¬ (n + 1) % 32 = 0) :
    (outsAt0 m c (n + 1) hn).1
      = bodyOut m c ⟨n + 1, hn⟩ (outsAt0 m c n (Nat.lt_of_succ_lt hn)).2.1 (outsAt0 m c n (Nat.lt_of_succ_lt hn)).2.2.1
          (outsAt0 m c n (Nat.lt_of_succ_lt hn)).2.2.2.1 (outsAt0 m c n (Nat.lt_of_succ_lt hn)).2.2.2.2 := by
  generalize ht : (⟨n + 1, hn⟩ : Fin cfg0.N) = t
  have h0' : ¬ t.val % 32 = 0 := by rw [← ht]; exact h0
  have e : outsAt0 m c (n + 1) hn = outsAt0 m c t.val t.isLt := by subst ht; rfl
  have e' : ∀ h, outsAt0 m c n (Nat.lt_of_succ_lt hn) = outsAt0 m c (t.val - 1) h := by subst ht; intro h; rfl
  rw [e, e' (by omega), outsAt0_B m c t h0']
  dsimp only
  unfold out0_B_21
  rw [View.read_writes_eq_canon _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (scM_whole0).read_unread, (scM_whole1).read_unread, (scM_whole2).read_unread, (scM_whole3).read_unread]
  rw [View.canon_unit_zero off3]
  simp only [View.ld_unit_zero (S := S1x100) off2, View.ld_unit_zero (S := S128x32) off2, View.ld_unit_zero (S := S32x100) off2,
    View.ld_unit_zero (S := S128x16) off2, View.ld_unit_zero (S := S16x8) off2, View.ld_unit_zero (S := S128x1) off2,
    View.ld_unit_zero (S := S1x128) off2, View.ld_unit_zero (S := S1x12800) off2, View.ld_unit_zero (S := S128x12800) off2,
    View.ld_unit_zero (S := S128x128) off2, View.ld_unit_zero (S := S128x64) off2, View.ld_unit_zero (S := S1x64) off2,
    View.readCov_unit_zero (S := S128x12800) _ off2, View.readCov_unit_zero (S := S1x12800) _ off2]
  rfl

/-- A later point keeps the scratch. -/
theorem scratch_next (c : Dev nD) (n : ℕ) (hn : n + 1 < cfg0.N) (h0 : ¬ (n + 1) % 32 = 0) :
    (outsAt0 m c (n + 1) hn).2 = (outsAt0 m c n (Nat.lt_of_succ_lt hn)).2 := by
  rw [outsAt0, dif_neg h0]
  rfl

end Cert.Encoder

end
-- ==== Proof.Encoder.Math.lean ====
/-
The mathematics of the encoder over the real numbers: one normalised row as the kernel computes it (moments expanded,
the mean and the variance assembled from those of the weights and of the table part) and as the reference computes it
(the row first, then its mean and variance), and that the two agree.
-/
module

public import Idealize.ShloMosaic.PureOps.Ideal
public import Mathlib.Tactic.Ring
public import Mathlib.Tactic.NormNum

@[expose] public section

noncomputable section

namespace Cert.Encoder

open scoped BigOperators

/-- The constant added to a variance: the 32-bit word both programs print for `1e-5`, as an exact number. -/
def eps : ℝ := 10995116 / 2 ^ 40

theorem eps_pos : 0 < eps := by unfold eps; norm_num

/-- The mean of a row of 128. -/
def mean (f : Fin 128 → ℝ) : ℝ := (∑ k, f k) / 128

/-- The variance of a row of 128. -/
def var (f : Fin 128 → ℝ) : ℝ := (∑ k, (f k - mean f) * (f k - mean f)) / 128

theorem var_nonneg (f : Fin 128 → ℝ) : 0 ≤ var f := by
  unfold var
  exact div_nonneg (Finset.sum_nonneg fun k _ => mul_self_nonneg _) (by norm_num)

/-- The kernel's mean: every entry weighed by 1/128 first. -/
theorem weighed_mean (f : Fin 128 → ℝ) : ∑ k, (1 / 128 : ℝ) * f k = mean f := by
  unfold mean; rw [← Finset.mul_sum]; ring

/-- The variance is the mean square less the squared mean. -/
theorem var_eq (f : Fin 128 → ℝ) : var f = mean (fun k => f k * f k) - mean f * mean f := by
  have h : ∑ k, (f k - mean f) * (f k - mean f) = ∑ k, f k * f k - 2 * mean f * ∑ k, f k + 128 * (mean f * mean f) := by
    have : ∀ k, (f k - mean f) * (f k - mean f) = f k * f k - 2 * mean f * f k + mean f * mean f := fun k => by ring
    simp only [this, Finset.sum_add_distrib, Finset.sum_sub_distrib, ← Finset.mul_sum, Finset.sum_const, Finset.card_univ,
      Fintype.card_fin, nsmul_eq_mul]
    push_cast; ring
  have hm : ∑ k, f k = 128 * mean f := by unfold mean; ring
  unfold var
  rw [h, hm]
  show _ = (∑ k, f k * f k) / 128 - _
  ring

/-- The mean of an affine row. -/
theorem mean_affine (x : ℝ) (w b : Fin 128 → ℝ) : mean (fun k => x * w k + b k) = x * mean w + mean b := by
  unfold mean; rw [Finset.sum_add_distrib, ← Finset.mul_sum]; ring

/-- The variance of an affine row is a quadratic in its scale, its coefficients the moments of the two parts. -/
theorem var_affine (x : ℝ) (w b : Fin 128 → ℝ) :
    var (fun k => x * w k + b k)
      = (x * (mean (fun k => w k * w k) - mean w * mean w) + 2 * (mean (fun k => w k * b k) - mean w * mean b)) * x
        + (mean (fun k => b k * b k) - mean b * mean b) := by
  rw [var_eq, mean_affine]
  have : mean (fun k => (x * w k + b k) * (x * w k + b k))
      = x * x * mean (fun k => w k * w k) + 2 * x * mean (fun k => w k * b k) + mean (fun k => b k * b k) := by
    unfold mean
    have h : ∀ k, (x * w k + b k) * (x * w k + b k) = x * x * (w k * w k) + 2 * x * (w k * b k) + b k * b k := fun k => by ring
    simp only [h, Finset.sum_add_distrib, ← Finset.mul_sum]; ring
  rw [this]; ring

/-! ## The kernel's row -/

/-- The mean of the first weight row. -/
def kMw (w : Fin 128 → ℝ) : ℝ := (∑ k, w k) / 128
/-- The variance of the first weight row. -/
def kVw (w : Fin 128 → ℝ) : ℝ := (∑ k, w k * w k) / 128 - kMw w * kMw w
/-- The mean of the table part. -/
def kMb (b : Fin 128 → ℝ) : ℝ := ∑ k, (1 / 128 : ℝ) * b k
/-- The covariance of the weight row and the table part. -/
def kCv (w b : Fin 128 → ℝ) : ℝ := ∑ k, (1 / 128 : ℝ) * w k * b k - kMw w * kMb b
/-- The variance of the table part, with the constant added. -/
def kVb (b : Fin 128 → ℝ) : ℝ := ∑ k, (1 / 128 : ℝ) * (b k * b k) - kMb b * kMb b + eps
/-- The first layer's mean. -/
def kM1 (x : ℝ) (w b : Fin 128 → ℝ) : ℝ := x * kMw w + kMb b
/-- The first layer's variance, with the constant added. -/
def kV1 (x : ℝ) (w b : Fin 128 → ℝ) : ℝ := (x * kVw w + 2 * kCv w b) * x + kVb b
/-- One over the root of it. -/
def kI1 (x : ℝ) (w b : Fin 128 → ℝ) : ℝ := (Real.sqrt (kV1 x w b))⁻¹
/-- The first layer's activation. -/
def kY (x : ℝ) (w b g e : Fin 128 → ℝ) (k : Fin 128) : ℝ :=
  max ((w k * g k * x + b k * g k) * kI1 x w b - g k * (kM1 x w b * kI1 x w b) + e k) 0
/-- The second layer before its normalisation. -/
def kZ (y : Fin 128 → ℝ) (W : Fin 128 → Fin 128 → ℝ) (c : Fin 128 → ℝ) (k : Fin 128) : ℝ := ∑ j, W j k * y j + c k
/-- The second layer's mean. -/
def kM2 (z : Fin 128 → ℝ) : ℝ := ∑ k, (1 / 128 : ℝ) * z k
/-- The second layer's variance, with the constant added. -/
def kV2 (z : Fin 128 → ℝ) : ℝ := ∑ k, (1 / 128 : ℝ) * (z k * z k) - kM2 z * kM2 z + eps
/-- The second layer normalised. -/
def kN (z : Fin 128 → ℝ) (k : Fin 128) : ℝ := z k * (Real.sqrt (kV2 z))⁻¹ - kM2 z * (Real.sqrt (kV2 z))⁻¹

/-! ## The reference's row -/

/-- A row normalised. -/
def rN (h : Fin 128 → ℝ) (k : Fin 128) : ℝ := (h k - mean h) / Real.sqrt (var h + eps)
/-- The first layer's activation. -/
def rY (h g e : Fin 128 → ℝ) (k : Fin 128) : ℝ := max (rN h k * g k + e k) 0
/-- The second layer before its normalisation. -/
def rZ (y : Fin 128 → ℝ) (W : Fin 128 → Fin 128 → ℝ) (c : Fin 128 → ℝ) (k : Fin 128) : ℝ := ∑ j, y j * W j k + c k

/-! ## They agree -/

theorem kM1_eq (x : ℝ) (w b : Fin 128 → ℝ) : kM1 x w b = mean (fun k => x * w k + b k) := by
  rw [mean_affine]; unfold kM1 kMw kMb; rw [weighed_mean]; rfl

theorem kV1_eq (x : ℝ) (w b : Fin 128 → ℝ) : kV1 x w b = var (fun k => x * w k + b k) + eps := by
  rw [var_affine]
  unfold kV1 kVw kCv kVb kMb kMw
  simp only [mul_assoc, weighed_mean]
  unfold mean; ring

theorem kV1_pos (x : ℝ) (w b : Fin 128 → ℝ) : 0 < kV1 x w b := by
  rw [kV1_eq]; exact add_pos_of_nonneg_of_pos (var_nonneg _) eps_pos

theorem kV2_eq (z : Fin 128 → ℝ) : kV2 z = var z + eps := by
  unfold kV2 kM2; simp only [weighed_mean]; rw [var_eq]

theorem kV2_pos (z : Fin 128 → ℝ) : 0 < kV2 z := by
  rw [kV2_eq]; exact add_pos_of_nonneg_of_pos (var_nonneg _) eps_pos

theorem var_eps_pos (z : Fin 128 → ℝ) : 0 < var z + eps := add_pos_of_nonneg_of_pos (var_nonneg _) eps_pos

theorem kY_eq (x : ℝ) (w b g e : Fin 128 → ℝ) (k : Fin 128) : kY x w b g e k = rY (fun k => x * w k + b k) g e k := by
  unfold kY rY rN kI1
  rw [kV1_eq, kM1_eq]
  congr 1
  rw [div_eq_mul_inv]; ring

theorem kZ_eq (y : Fin 128 → ℝ) (W : Fin 128 → Fin 128 → ℝ) (c : Fin 128 → ℝ) : kZ y W c = rZ y W c := by
  funext k; unfold kZ rZ
  congr 1
  exact Finset.sum_congr rfl fun j _ => mul_comm _ _

theorem kN_eq (z : Fin 128 → ℝ) (k : Fin 128) : kN z k = rN z k := by
  unfold kN rN
  rw [kV2_eq]; unfold kM2; rw [weighed_mean, div_eq_mul_inv]; ring

/-- **The two rows agree**: the kernel's second normalised row is the reference's. -/
theorem row_eq (x : ℝ) (w b g e : Fin 128 → ℝ) (W : Fin 128 → Fin 128 → ℝ) (c : Fin 128 → ℝ) (k : Fin 128) :
    kN (kZ (kY x w b g e) W c) k = rN (rZ (rY (fun k => x * w k + b k) g e) W c) k := by
  rw [kN_eq, kZ_eq]
  congr 2
  funext j; exact kY_eq x w b g e j

end Cert.Encoder

end
-- ==== Proof.Encoder.Lift.lean ====
/-
Real numbers inside the extended reals the ideal operations run on: sums, the roots, the division by 128, the larger of a
number and zero, the printed constants, and the rows of a table picked by a one-hot column.
-/
module

public import Idealize.ShloMosaic.PureOps.Ideal
public import Idealize.ShloMosaic.Lib.IdealHost
public import proofs.«01_k».proof.Proof.Encoder.Math

@[expose] public section

noncomputable section

namespace Cert.Encoder

open Idealize.ShloMosaic
open scoped BigOperators

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, read in the extended reals. -/
theorem coe_max (x y : ℝ) : ((max x y : ℝ) : EReal) = max (x : EReal) (y : EReal) :=
  EReal.coe_strictMono.monotone.map_max

/-- The larger of a real number and zero. -/
theorem max_zero (x : ℝ) : max (x : EReal) 0 = ((max x 0 : ℝ) : EReal) := by rw [coe_max]; rfl

/-- The word of `128`. -/
theorem word_128 : Ideal.ofBits .f32 1124073472#32 = ((128 : ℝ) : EReal) := by
  simp [Ideal.ofBits, Ideal.ieee, -EReal.coe_mul]; norm_num

/-- The word of `1/128`. -/
theorem word_128th : Ideal.ofBits .f32 1006632960#32 = ((1 / 128 : ℝ) : EReal) := by
  simp [Ideal.ofBits, Ideal.ieee, -EReal.coe_mul]; norm_num

/-- The word of `2`. -/
theorem word_2 : Ideal.ofBits .f32 1073741824#32 = ((2 : ℝ) : EReal) := by
  simp [Ideal.ofBits, Ideal.ieee, -EReal.coe_mul]; norm_num

/-- The word of the constant added to a variance. -/
theorem word_eps : Ideal.ofBits .f32 925353388#32 = (eps : EReal) := by
  unfold eps
  simp [Ideal.ofBits, Ideal.ieee, -EReal.coe_mul]; norm_num

/-- The word of `+∞`. -/
theorem word_top : Ideal.ofBits .f32 2139095040#32 = (⊤ : EReal) := by
  simp [Ideal.ofBits, Ideal.ieee, -EReal.coe_mul]

/-- A real number divided by 128. -/
theorem div_128 (x : ℝ) : Ideal.div (x : EReal) ((128 : ℝ) : EReal) = ((x / 128 : ℝ) : EReal) := by
  rw [Ideal.div_coe (by norm_num : (128 : ℝ) ≠ 0), ← EReal.coe_mul, mul_one_div]

/-- One over the root of a positive number. -/
theorem rsqrt_pos {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.mpr h.le), if_neg h.ne']

/-- The root of a positive number. -/
theorem sqrt_pos {x : ℝ} (h : 0 < x) : Ideal.sqrt (x : EReal) = ((Real.sqrt x : ℝ) : EReal) := by
  show (if x < 0 then (⊥ : EReal) else (Real.sqrt x : ℝ)) = _
  rw [if_neg (not_lt.mpr h.le)]

/-- A real number divided by the root of a positive one. -/
theorem div_sqrt (x : ℝ) {y : ℝ} (h : 0 < y) :
    Ideal.div (x : EReal) ((Real.sqrt y : ℝ) : EReal) = ((x / Real.sqrt y : ℝ) : EReal) := by
  rw [Ideal.div_coe (Real.sqrt_pos.mpr h).ne', ← EReal.coe_mul, mul_one_div]

/-- An entry of a one-hot column: 1 where the two words are equal, 0 elsewhere. -/
theorem hot (a b : BitVec 32) :
    (FloatOps.sitofp FTy.f32 (BitVec.setWidth 32 (IntOp.cmpi CmpIPredicate.eq a b)) : Ideal .f32)
      = if a = b then (1 : EReal) else 0 := by
  show (((BitVec.setWidth 32 (IntOp.cmpi CmpIPredicate.eq a b)).toInt : ℝ) : EReal) = _
  by_cases h : a = b
  · subst h; simp [IntOp.cmpi]
  · have hb : (a == b) = false := by simpa using h
    simp [IntOp.cmpi, hb, h]

/-- A table times a one-hot column is the row the column picks. -/
theorem sum_hot {n : ℕ} (hn : n ≤ 2 ^ 32) (f : Fin n → EReal) (a : Fin n) :
    ∑ x : Fin n, f x * (if BitVec.ofNat 32 a = BitVec.ofNat 32 x then (1 : EReal) else 0) = f a := by
  rw [Finset.sum_eq_single a]
  · simp
  · intro b _ hb
    rw [if_neg, mul_zero]
    intro h
    apply hb
    have := congrArg BitVec.toNat h
    simp only [BitVec.toNat_ofNat] at this
    rw [Nat.mod_eq_of_lt (lt_of_lt_of_le a.2 hn), Nat.mod_eq_of_lt (lt_of_lt_of_le b.2 hn)] at this
    exact Fin.ext this.symm
  · simp

end Cert.Encoder

end
-- ==== Proof.Encoder.Prologue.lean ====
/-
What the kernel's prologue computes, on real inputs: the table part of the first layer for each of the 100 columns, its
moments, and the four arrays it carries — each of the 12800 columns of a block reads column `r % 100`.
-/
module

public import proofs.«01_k».proof.Proof.Gen.KernelIdeal.Skeleton
public import proofs.«01_k».proof.Proof.Encoder.Lift
public import Idealize.ShloMosaic.Lib.Pointwise

@[expose] public section

set_option maxRecDepth 16384

noncomputable section

namespace Cert.Encoder

open Idealize.ShloMosaic Cert.KernelIdeal Cert.KernelIdeal.Gen

/-- The real numbers behind the arguments that enter both layers before the last scale and shift, and the three rows of
    indices. -/
structure Nums where
  /-- The first row of the first weight. -/
  w : Fin 128 → ℝ
  /-- Its 32 rows that meet the first table. -/
  A : Fin 128 → Fin 32 → ℝ
  /-- Its 16 rows that meet the second table. -/
  B : Fin 128 → Fin 16 → ℝ
  /-- Its 16 rows that meet the third table. -/
  C : Fin 128 → Fin 16 → ℝ
  /-- The first table, a column per row of the argument. -/
  T : Fin 32 → Fin 100 → ℝ
  /-- The second table. -/
  U : Fin 16 → Fin 8 → ℝ
  /-- The third table. -/
  V : Fin 16 → Fin 8 → ℝ
  /-- The first layer's shift. -/
  b1 : Fin 128 → ℝ
  /-- The first normalisation's scale. -/
  g1 : Fin 128 → ℝ
  /-- The first normalisation's shift. -/
  e1 : Fin 128 → ℝ
  /-- The second weight. -/
  W2 : Fin 128 → Fin 128 → ℝ
  /-- The second layer's shift. -/
  b2 : Fin 128 → ℝ
  /-- The row of the first table each column reads. -/
  n : Fin 100 → Fin 100
  /-- The row of the second table each column reads. -/
  p : Fin 100 → Fin 8
  /-- The row of the third table each column reads. -/
  q : Fin 100 → Fin 8

/-- The table part of the first layer at a column: what the three table rows and the shift add to hidden unit `k`. -/
def Nums.base (d : Nums) (v : Fin 100) (k : Fin 128) : ℝ :=
  ∑ j, d.A k j * d.T j (d.n v) + ∑ j, d.B k j * d.U j (d.p v) + ∑ j, d.C k j * d.V j (d.q v) + d.b1 k

/-- The column of the tables that column `r` of a block reads. -/
def col (r : Fin 12800) : Fin 100 := ⟨r % 100, Nat.mod_lt _ (by norm_num)⟩

variable (d : Nums)

section base

variable (v93 v99 v105 : Vec Ideal S1x100 .i32) (v111 : Vec Ideal S128x32 .f32) (v113 : Vec Ideal S32x100 .f32)
  (v117 v124 : Vec Ideal S128x16 .f32) (v119 v126 : Vec Ideal S16x8 .f32) (v131 : Vec Ideal S128x1 .f32)

/-- **The table part**: the three one-hot products and the shift. -/
theorem base_apply
    (h93 : ∀ v, v93 (ix2 0 v) = BitVec.ofNat 32 (d.n v)) (h99 : ∀ v, v99 (ix2 0 v) = BitVec.ofNat 32 (d.p v))
    (h105 : ∀ v, v105 (ix2 0 v) = BitVec.ofNat 32 (d.q v))
    (h111 : ∀ k j, v111 (ix2 k j) = (d.A k j : EReal)) (h113 : ∀ j v, v113 (ix2 j v) = (d.T j v : EReal))
    (h117 : ∀ k j, v117 (ix2 k j) = (d.B k j : EReal)) (h119 : ∀ j v, v119 (ix2 j v) = (d.U j v : EReal))
    (h124 : ∀ k j, v124 (ix2 k j) = (d.C k j : EReal)) (h126 : ∀ j v, v126 (ix2 j v) = (d.V j v : EReal))
    (h131 : ∀ k, v131 (ix2 k 0) = (d.b1 k : EReal)) (k : Fin 128) (v : Fin 100) :
    k0_pay6 (k0_pay2 v105) (k0_pay3 v93 v99 v111 v113 v117 v119) (k0_pay4 v124) (k0_pay5 v126) v131 (ix2 k v)
      = (d.base v k : EReal) := by
  unfold k0_pay6 k0_pay2 k0_pay3 k0_pay4 k0_pay5
  pointwise []
  simp only [h93, h99, h105, h111, h113, h117, h119, h124, h126, h131, hot]
  simp only [sum_hot (show 100 ≤ 2 ^ 32 by norm_num), sum_hot (show 8 ≤ 2 ^ 32 by norm_num)]
  simp only [← EReal.coe_mul, ← coe_sum, ← EReal.coe_add]
  rfl

end base

section moments

variable (v110 : FVec Ideal S8x100 .f32) (v123 : FVec Ideal S128x100 .f32) (v125 : FVec Ideal S128x16 .f32)
  (v127 : FVec Ideal S16x8 .f32) (v131 : Vec Ideal S128x1 .f32) (v135 : Vec Ideal S1x128 .f32)

/-- The table part's mean. -/
theorem mean_apply (hb : ∀ k v, k0_pay6 v110 v123 v125 v127 v131 (ix2 k v) = (d.base v k : EReal)) (v : Fin 100) :
    k0_pay7 (k0_pay12 (F := Ideal)) v110 v123 v125 v127 v131 (ix2 0 v) = (kMb (d.base v) : EReal) := by
  unfold k0_pay7 k0_pay12
  pointwise []
  simp only [hb, word_128th]
  simp only [← EReal.coe_mul, ← coe_sum]
  rfl

/-- The covariance of the weight row and the table part. -/
theorem cov_apply (hb : ∀ k v, k0_pay6 v110 v123 v125 v127 v131 (ix2 k v) = (d.base v k : EReal))
    (h135 : ∀ k, v135 (ix2 0 k) = (d.w k : EReal)) (v : Fin 100) :
    k0_pay8 (k0_pay12 (F := Ideal)) v110 v123 v125 v127 v131 v135 (ix2 0 v) = (kCv d.w (d.base v) : EReal) := by
  unfold k0_pay8
  pointwise []
  simp only [mean_apply d v110 v123 v125 v127 v131 hb, hb, h135]
  unfold k0_pay12
  pointwise []
  simp only [word_128th, word_128, ← coe_sum, ← EReal.coe_mul, div_128, ← EReal.coe_sub]
  rfl

/-- The table part's variance, with the constant added. -/
theorem var_apply (hb : ∀ k v, k0_pay6 v110 v123 v125 v127 v131 (ix2 k v) = (d.base v k : EReal)) (v : Fin 100) :
    k0_pay9 (k0_pay12 (F := Ideal)) v110 v123 v125 v127 v131 (ix2 0 v) = (kVb (d.base v) : EReal) := by
  unfold k0_pay9
  pointwise []
  simp only [mean_apply d v110 v123 v125 v127 v131 hb, hb]
  unfold k0_pay12
  pointwise []
  simp only [word_128th, word_eps, ← coe_sum, ← EReal.coe_mul, ← EReal.coe_sub, ← EReal.coe_add]
  rfl

end moments

/-- A word below 12800 rests on 100 as the number it prints. -/
theorem rem_100 (r : Fin 12800) :
    IntOp.remsi ArithUnit.vector (BitVec.ofNat 32 r) 100#32 = BitVec.ofNat 32 (col r) := by
  have hr : (BitVec.ofNat 32 (r : ℕ)).toNat = r := by
    rw [BitVec.toNat_ofNat]; exact Nat.mod_eq_of_lt (by omega)
  have hm : (BitVec.ofNat 32 (r : ℕ)).msb = false := by
    rw [BitVec.msb_eq_decide, hr]; simp; omega
  have hc : ¬ IntOp.SDivCorner (BitVec.ofNat 32 (r : ℕ)) 100#32 := by
    unfold IntOp.SDivCorner; simp
  show (if IntOp.SDivCorner (BitVec.ofNat 32 (r : ℕ)) 100#32 then _ else (BitVec.ofNat 32 (r : ℕ)).srem 100#32) = _
  rw [if_neg hc, BitVec.srem_eq, hm]
  show BitVec.ofNat 32 (r : ℕ) % 100#32 = _
  apply BitVec.eq_of_toNat_eq
  rw [BitVec.toNat_umod, hr, BitVec.toNat_ofNat]
  show _ = (r : ℕ) % 100 % 2 ^ 32
  rw [Nat.mod_eq_of_lt (a := (r : ℕ) % 100) (by omega)]

/-- The matrix that repeats the 100 columns over a block of 12800. -/
theorem pick_apply (v : Fin 100) (r : Fin 12800) :
    k0_pay10 (F := Ideal) (ix2 v r) = if BitVec.ofNat 32 (col r) = BitVec.ofNat 32 v then (1 : EReal) else 0 := by
  unfold k0_pay10
  pointwise []
  rw [rem_100, hot]

section carried

variable (v110 : FVec Ideal S8x100 .f32) (v123 : FVec Ideal S128x100 .f32) (v125 : FVec Ideal S128x16 .f32)
  (v127 : FVec Ideal S16x8 .f32) (v131 v160 : Vec Ideal S128x1 .f32) (v141 v146 v152 : FVec Ideal S1x100 .f32)

/-- The first carried array: the table part times the scale. -/
theorem carried0 (hb : ∀ k v, k0_pay6 v110 v123 v125 v127 v131 (ix2 k v) = (d.base v k : EReal))
    (h160 : ∀ k, v160 (ix2 k 0) = (d.g1 k : EReal)) (k : Fin 128) (r : Fin 12800) :
    k0_pay11 v110 v123 v125 v127 v131 v160 (ix2 k r) = (d.base (col r) k * d.g1 k : ℝ) := by
  unfold k0_pay11
  pointwise []
  simp only [hb, h160, pick_apply, sum_hot (show 100 ≤ 2 ^ 32 by norm_num)]
  rw [EReal.coe_mul]

/-- The second carried array: the table part's mean. -/
theorem carried1 (h : ∀ v, v141 (ix2 0 v) = (kMb (d.base v) : EReal)) (r : Fin 12800) :
    k0_pay13 v141 (k0_pay10 (F := Ideal)) (constant S1x12800 .f32 0x00000000#32) (ix2 0 r)
      = (kMb (d.base (col r)) : EReal) := by
  unfold k0_pay13
  pointwise []
  simp only [h, pick_apply]
  exact sum_hot (show 100 ≤ 2 ^ 32 by norm_num) (fun v => (kMb (d.base v) : EReal)) (col r)

/-- The third carried array: twice the covariance. -/
theorem carried2 (h : ∀ v, v146 (ix2 0 v) = (kCv d.w (d.base v) : EReal)) (r : Fin 12800) :
    k0_pay14 v146 (k0_pay10 (F := Ideal)) (ix2 0 r) = (2 * kCv d.w (d.base (col r)) : ℝ) := by
  unfold k0_pay14
  pointwise []
  simp only [h, pick_apply, word_2, ← EReal.coe_mul]
  exact sum_hot (show 100 ≤ 2 ^ 32 by norm_num) (fun v => ((2 * kCv d.w (d.base v) : ℝ) : EReal)) (col r)

/-- The fourth carried array: the table part's variance, with the constant added. -/
theorem carried3 (h : ∀ v, v152 (ix2 0 v) = (kVb (d.base v) : EReal)) (r : Fin 12800) :
    k0_pay15 v152 (k0_pay10 (F := Ideal)) (ix2 0 r) = (kVb (d.base (col r)) : EReal) := by
  unfold k0_pay15
  pointwise []
  simp only [h, pick_apply]
  exact sum_hot (show 100 ≤ 2 ^ 32 by norm_num) (fun v => (kVb (d.base v) : EReal)) (col r)

end carried

end Cert.Encoder

end
-- ==== Proof.Encoder.Body.lean ====
/-
What the kernel's body computes at one entry of a block, on real inputs and the carried arrays the prologue leaves: the
second layer's normalised row, scaled, shifted, cut at zero and multiplied into the last weight.
-/
module

public import proofs.«01_k».proof.Proof.Encoder.Prologue

@[expose] public section

set_option maxRecDepth 16384

noncomputable section

namespace Cert.Encoder

open Idealize.ShloMosaic Cert.KernelIdeal Cert.KernelIdeal.Gen

variable (d : Nums)

/-- The second layer's normalised row for the number `x` at column `v`, as the kernel computes it. -/
def Nums.kRow (d : Nums) (x : ℝ) (v : Fin 100) : Fin 128 → ℝ :=
  kN (kZ (kY x d.w (d.base v) d.g1 d.e1) (fun j k => d.W2 j k) d.b2)

/-- One over the root of the first layer's variance. -/
theorem inv_apply (v4 : Vec Ideal S1x128 .f32) (v17 v25 v28 : Vec Ideal S1x12800 .f32) (r : Fin 12800) (x : ℝ)
    (h4 : ∀ k, v4 (ix2 0 k) = (d.w k : EReal)) (h17 : v17 (ix2 0 r) = (x : EReal))
    (h25 : v25 (ix2 0 r) = (2 * kCv d.w (d.base (col r)) : ℝ)) (h28 : v28 (ix2 0 r) = (kVb (d.base (col r)) : EReal)) :
    k0_pay19 v4 v17 v25 v28 (ix2 0 r) = (kI1 x d.w (d.base (col r)) : EReal) := by
  unfold k0_pay19 k0_pay17 k0_pay16 k0_pay18
  pointwise []
  simp only [h4, h17, h25, h28, word_128, ← EReal.coe_mul, ← coe_sum, div_128, ← EReal.coe_sub, ← EReal.coe_add]
  exact rsqrt_pos (kV1_pos x d.w (d.base (col r)))

/-- The first layer's mean over the root of its variance. -/
theorem mean_inv_apply (v4 : Vec Ideal S1x128 .f32) (v17 v21 v25 v28 : Vec Ideal S1x12800 .f32) (r : Fin 12800) (x : ℝ)
    (h4 : ∀ k, v4 (ix2 0 k) = (d.w k : EReal)) (h17 : v17 (ix2 0 r) = (x : EReal))
    (h21 : v21 (ix2 0 r) = (kMb (d.base (col r)) : EReal))
    (h25 : v25 (ix2 0 r) = (2 * kCv d.w (d.base (col r)) : ℝ)) (h28 : v28 (ix2 0 r) = (kVb (d.base (col r)) : EReal)) :
    k0_pay20 v4 v17 v21 v25 v28 (ix2 0 r)
      = (kM1 x d.w (d.base (col r)) * kI1 x d.w (d.base (col r)) : ℝ) := by
  unfold k0_pay20
  pointwise []
  rw [inv_apply d v4 v17 v25 v28 r x h4 h17 h25 h28]
  unfold k0_pay17 k0_pay16 k0_pay18
  pointwise []
  simp only [h4, h17, h21, word_128, ← coe_sum, div_128, ← EReal.coe_mul, ← EReal.coe_add]
  rfl

/-- The number times the scaled weight row. -/
theorem scaled_apply (v17 : Vec Ideal S1x12800 .f32) (v32 : Vec Ideal S128x1 .f32) (r : Fin 12800) (x : ℝ) (k : Fin 128)
    (h17 : v17 (ix2 0 r) = (x : EReal)) (h32 : ∀ k, v32 (ix2 k 0) = (d.w k * d.g1 k : ℝ)) :
    k0_pay21 v17 v32 (ix2 k r) = (d.w k * d.g1 k * x : ℝ) := by
  unfold k0_pay21 k0_pay18
  pointwise []
  simp only [Fin.sum_univ_one, h17, h32, EReal.coe_mul]

/-- The second layer's normalised row, scaled and shifted. -/
theorem row_apply (v30 v31 : FVec Ideal S1x12800 .f32) (v34 : FVec Ideal S128x12800 .f32) (v35 : Vec Ideal S128x12800 .f32)
    (v39 v43 : Vec Ideal S128x1 .f32) (v49 : Vec Ideal S128x128 .bf16) (v53 v70 v74 : Vec Ideal S128x1 .f32)
    (r : Fin 12800) (x : ℝ)
    (h30 : v30 (ix2 0 r) = (kI1 x d.w (d.base (col r)) : EReal))
    (h31 : v31 (ix2 0 r) = (kM1 x d.w (d.base (col r)) * kI1 x d.w (d.base (col r)) : ℝ))
    (h34 : ∀ k, v34 (ix2 k r) = (d.w k * d.g1 k * x : ℝ))
    (h35 : ∀ k, v35 (ix2 k r) = (d.base (col r) k * d.g1 k : ℝ))
    (h39 : ∀ k, v39 (ix2 k 0) = (d.g1 k : EReal)) (h43 : ∀ k, v43 (ix2 k 0) = (d.e1 k : EReal))
    (h49 : ∀ k j, v49 (ix2 k j) = (d.W2 j k : EReal)) (h53 : ∀ k, v53 (ix2 k 0) = (d.b2 k : EReal)) (k : Fin 128) :
    k0_pay22 (k0_pay12 (F := Ideal)) v30 v31 v34 v35 v39 v43 v49 v53 v70 v74 (ix2 k r)
      = (d.kRow x (col r) k : EReal) * v70 (ix2 k 0) + v74 (ix2 k 0) := by
  unfold k0_pay22 k0_pay12
  pointwise []
  have hy : ∀ k, max ((v34 (ix2 k r) + v35 (ix2 k r)) * v30 (ix2 0 r) - v39 (ix2 k 0) * v31 (ix2 0 r) + v43 (ix2 k 0)) 0
      = (kY x d.w (d.base (col r)) d.g1 d.e1 k : EReal) := by
    intro k
    rw [h34, h35, h30, h39, h31, h43]
    simp only [← EReal.coe_mul, ← EReal.coe_add, ← EReal.coe_sub, max_zero]
    rfl
  have hz : ∀ k, ∑ j, v49 (ix2 k j) * (kY x d.w (d.base (col r)) d.g1 d.e1 j : EReal) + v53 (ix2 k 0)
      = (kZ (kY x d.w (d.base (col r)) d.g1 d.e1) (fun j k => d.W2 j k) d.b2 k : EReal) := by
    intro k
    simp only [h49, h53, ← EReal.coe_mul, ← coe_sum, ← EReal.coe_add]
    rfl
  simp only [Fin.sum_univ_one, hy, hz, word_128th, word_eps, ← EReal.coe_mul, ← coe_sum, ← EReal.coe_add, ← EReal.coe_sub]
  have hr := rsqrt_pos (kV2_pos (kZ (kY x d.w (d.base (col r)) d.g1 d.e1) (fun j k => d.W2 j k) d.b2))
  unfold kV2 kM2 at hr
  rw [hr, ← EReal.coe_mul, ← EReal.coe_mul, ← EReal.coe_sub]
  rfl

/-- Column `100·b + v` of a block. -/
def at100 (b : Fin 128) (v : Fin 100) : Fin 12800 := ⟨b * 100 + v, by omega⟩

theorem col_at100 (b : Fin 128) (v : Fin 100) : col (at100 b v) = v := by
  apply Fin.ext; show ((b : ℕ) * 100 + v) % 100 = v; omega

/-- The last layer: the row cut at zero, times the last weight, and its shift. -/
theorem last_apply (v77 : FVec Ideal S128x12800 .f32) (v81 : Vec Ideal S128x64 .bf16) (v84 : Vec Ideal S1x64 .f32)
    (b : Fin 128) (v : Fin 100) (o : Fin 64) :
    k0_pay1 v77 v81 v84 (ix3 b v o) = ∑ k, max (v77 (ix2 k (at100 b v))) 0 * v81 (ix2 k o) + v84 (ix2 0 o) := by
  unfold k0_pay1
  pointwise []
  rfl

end Cert.Encoder

end
-- ==== Proof.Encoder.Host.lean ====
/-
The blocks the kernel's windows read, as entries of the program's arguments: the host reshapes, transposes and slices its
arguments into the windows' arrays, twenty of which every grid point reads whole, and the values by 128 rows a point.
-/
module

public import proofs.«01_k».proof.Proof.KernelRun.Blocks
public import proofs.«01_k».proof.Proof.Encoder.Body

@[expose] public section

set_option maxRecDepth 16384

noncomputable section

namespace Cert.Encoder

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ)

/-- The values, as launched. -/
abbrev arg0 (c : Dev nD) : Vec Ideal S4096x100 .f32 := m (c, Proc.tc.devRef main_arg0)
/-- The row of name indices, as launched. -/
abbrev arg1 (c : Dev nD) : Vec Ideal S100 .i32 := m (c, Proc.tc.devRef main_arg1)
/-- The row of role indices, as launched. -/
abbrev arg2 (c : Dev nD) : Vec Ideal S100 .i32 := m (c, Proc.tc.devRef main_arg2)
/-- The row of group indices, as launched. -/
abbrev arg3 (c : Dev nD) : Vec Ideal S100 .i32 := m (c, Proc.tc.devRef main_arg3)
/-- The name table, as launched. -/
abbrev arg4 (c : Dev nD) : Vec Ideal S100x32 .f32 := m (c, Proc.tc.devRef main_arg4)
/-- The role table, as launched. -/
abbrev arg5 (c : Dev nD) : Vec Ideal S8x16 .f32 := m (c, Proc.tc.devRef main_arg5)
/-- The group table, as launched. -/
abbrev arg6 (c : Dev nD) : Vec Ideal S8x16 .f32 := m (c, Proc.tc.devRef main_arg6)
/-- The first weight, as launched. -/
abbrev arg7 (c : Dev nD) : Vec Ideal S65x128 .f32 := m (c, Proc.tc.devRef main_arg7)
/-- The first layer's shift, as launched. -/
abbrev arg8 (c : Dev nD) : Vec Ideal S128 .f32 := m (c, Proc.tc.devRef main_arg8)
/-- The first normalisation's scale, as launched. -/
abbrev arg9 (c : Dev nD) : Vec Ideal S128 .f32 := m (c, Proc.tc.devRef main_arg9)
/-- The first normalisation's shift, as launched. -/
abbrev arg10 (c : Dev nD) : Vec Ideal S128 .f32 := m (c, Proc.tc.devRef main_arg10)
/-- The second weight, as launched. -/
abbrev arg11 (c : Dev nD) : Vec Ideal S128x128 .f32 := m (c, Proc.tc.devRef main_arg11)
/-- The second layer's shift, as launched. -/
abbrev arg12 (c : Dev nD) : Vec Ideal S128 .f32 := m (c, Proc.tc.devRef main_arg12)
/-- The second normalisation's scale, as launched. -/
abbrev arg13 (c : Dev nD) : Vec Ideal S128 .f32 := m (c, Proc.tc.devRef main_arg13)
/-- The second normalisation's shift, as launched. -/
abbrev arg14 (c : Dev nD) : Vec Ideal S128 .f32 := m (c, Proc.tc.devRef main_arg14)
/-- The last weight, as launched. -/
abbrev arg15 (c : Dev nD) : Vec Ideal S128x64 .f32 := m (c, Proc.tc.devRef main_arg15)
/-- The last layer's shift, as launched. -/
abbrev arg16 (c : Dev nD) : Vec Ideal S64 .f32 := m (c, Proc.tc.devRef main_arg16)

theorem at1 : ∀ t : Fin cfg0.N, win0_1.index t 0 = 0 ∧ win0_1.index t 1 = 0 :=
  (by decide +kernel : ∀ t : Fin grid0.N, win0_1.index t 0 = 0 ∧ win0_1.index t 1 = 0)

/-- Window 1's block at any point. -/
theorem blk1 (c : Dev nD) (t : Fin cfg0.N) (b : Fin 100) :
    (iblk m c 1 t : Vec Ideal S1x100 .i32) (ix2 0 b) = arg1 m c (ix1 b) := by
  have e : (iblk m c 1 t : Vec Ideal S1x100 .i32) (ix2 0 b) = (V m c main_v1 : Vec Ideal S1x100 .i32) (ix2 0 b) := by
    show (V m c main_v1 : Vec Ideal S1x100 .i32) (((cfg0.win 1).blk t).view.emb (ix2 0 b)) = _
    congr 1
    funext x
    obtain ⟨h0, h1⟩ := at1 t
    fin_cases x <;> apply Fin.ext
    · show win0_1.index t 0 * 1 + 1 * ((0 : Fin 1) : ℕ) = ((0 : Fin 1) : ℕ)
      rw [h0]; omega
    · show win0_1.index t 1 * 100 + 1 * (b : ℕ) = (b : ℕ)
      rw [h1]; omega
  rw [e]
  unfold V hostOps0
  after_results
  pointwise []

theorem at2 : ∀ t : Fin cfg0.N, win0_2.index t 0 = 0 ∧ win0_2.index t 1 = 0 :=
  (by decide +kernel : ∀ t : Fin grid0.N, win0_2.index t 0 = 0 ∧ win0_2.index t 1 = 0)

/-- Window 2's block at any point. -/
theorem blk2 (c : Dev nD) (t : Fin cfg0.N) (b : Fin 100) :
    (iblk m c 2 t : Vec Ideal S1x100 .i32) (ix2 0 b) = arg2 m c (ix1 b) := by
  have e : (iblk m c 2 t : Vec Ideal S1x100 .i32) (ix2 0 b) = (V m c main_v2 : Vec Ideal S1x100 .i32) (ix2 0 b) := by
    show (V m c main_v2 : Vec Ideal S1x100 .i32) (((cfg0.win 2).blk t).view.emb (ix2 0 b)) = _
    congr 1
    funext x
    obtain ⟨h0, h1⟩ := at2 t
    fin_cases x <;> apply Fin.ext
    · show win0_2.index t 0 * 1 + 1 * ((0 : Fin 1) : ℕ) = ((0 : Fin 1) : ℕ)
      rw [h0]; omega
    · show win0_2.index t 1 * 100 + 1 * (b : ℕ) = (b : ℕ)
      rw [h1]; omega
  rw [e]
  unfold V hostOps0
  after_results
  pointwise []

theorem at3 : ∀ t : Fin cfg0.N, win0_3.index t 0 = 0 ∧ win0_3.index t 1 = 0 :=
  (by decide +kernel : ∀ t : Fin grid0.N, win0_3.index t 0 = 0 ∧ win0_3.index t 1 = 0)

/-- Window 3's block at any point. -/
theorem blk3 (c : Dev nD) (t : Fin cfg0.N) (b : Fin 100) :
    (iblk m c 3 t : Vec Ideal S1x100 .i32) (ix2 0 b) = arg3 m c (ix1 b) := by
  have e : (iblk m c 3 t : Vec Ideal S1x100 .i32) (ix2 0 b) = (V m c main_v3 : Vec Ideal S1x100 .i32) (ix2 0 b) := by
    show (V m c main_v3 : Vec Ideal S1x100 .i32) (((cfg0.win 3).blk t).view.emb (ix2 0 b)) = _
    congr 1
    funext x
    obtain ⟨h0, h1⟩ := at3 t
    fin_cases x <;> apply Fin.ext
    · show win0_3.index t 0 * 1 + 1 * ((0 : Fin 1) : ℕ) = ((0 : Fin 1) : ℕ)
      rw [h0]; omega
    · show win0_3.index t 1 * 100 + 1 * (b : ℕ) = (b : ℕ)
      rw [h1]; omega
  rw [e]
  unfold V hostOps0
  after_results
  pointwise []

theorem at4 : ∀ t : Fin cfg0.N, win0_4.index t 0 = 0 ∧ win0_4.index t 1 = 0 :=
  (by decide +kernel : ∀ t : Fin grid0.N, win0_4.index t 0 = 0 ∧ win0_4.index t 1 = 0)

/-- Window 4's block at any point. -/
theorem blk4 (c : Dev nD) (t : Fin cfg0.N) (a : Fin 32) (b : Fin 100) :
    (iblk m c 4 t : Vec Ideal S32x100 .f32) (ix2 a b) = arg4 m c (ix2 b a) := by
  have e : (iblk m c 4 t : Vec Ideal S32x100 .f32) (ix2 a b) = (V m c main_v4 : Vec Ideal S32x100 .f32) (ix2 a b) := by
    show (V m c main_v4 : Vec Ideal S32x100 .f32) (((cfg0.win 4).blk t).view.emb (ix2 a b)) = _
    congr 1
    funext x
    obtain ⟨h0, h1⟩ := at4 t
    fin_cases x <;> apply Fin.ext
    · show win0_4.index t 0 * 32 + 1 * (a : ℕ) = (a : ℕ)
      rw [h0]; omega
    · show win0_4.index t 1 * 100 + 1 * (b : ℕ) = (b : ℕ)
      rw [h1]; omega
  rw [e]
  unfold V hostOps0
  after_results
  pointwise []

theorem at5 : ∀ t : Fin cfg0.N, win0_5.index t 0 = 0 ∧ win0_5.index t 1 = 0 :=
  (by decide +kernel : ∀ t : Fin grid0.N, win0_5.index t 0 = 0 ∧ win0_5.index t 1 = 0)

/-- Window 5's block at any point. -/
theorem blk5 (c : Dev nD) (t : Fin cfg0.N) (a : Fin 16) (b : Fin 8) :
    (iblk m c 5 t : Vec Ideal S16x8 .f32) (ix2 a b) = arg5 m c (ix2 b a) := by
  have e : (iblk m c 5 t : Vec Ideal S16x8 .f32) (ix2 a b) = (V m c main_v5 : Vec Ideal S16x8 .f32) (ix2 a b) := by
    show (V m c main_v5 : Vec Ideal S16x8 .f32) (((cfg0.win 5).blk t).view.emb (ix2 a b)) = _
    congr 1
    funext x
    obtain ⟨h0, h1⟩ := at5 t
    fin_cases x <;> apply Fin.ext
    · show win0_5.index t 0 * 16 + 1 * (a : ℕ) = (a : ℕ)
      rw [h0]; omega
    · show win0_5.index t 1 * 8 + 1 * (b : ℕ) = (b : ℕ)
      rw [h1]; omega
  rw [e]
  unfold V hostOps0
  after_results
  pointwise []

theorem at6 : ∀ t : Fin cfg0.N, win0_6.index t 0 = 0 ∧ win0_6.index t 1 = 0 :=
  (by decide +kernel : ∀ t : Fin grid0.N, win0_6.index t 0 = 0 ∧ win0_6.index t 1 = 0)

/-- Window 6's block at any point. -/
theorem blk6 (c : Dev nD) (t : Fin cfg0.N) (a : Fin 16) (b : Fin 8) :
    (iblk m c 6 t : Vec Ideal S16x8 .f32) (ix2 a b) = arg6 m c (ix2 b a) := by
  have e : (iblk m c 6 t : Vec Ideal S16x8 .f32) (ix2 a b) = (V m c main_v6 : Vec Ideal S16x8 .f32) (ix2 a b) := by
    show (V m c main_v6 : Vec Ideal S16x8 .f32) (((cfg0.win 6).blk t).view.emb (ix2 a b)) = _
    congr 1
    funext x
    obtain ⟨h0, h1⟩ := at6 t
    fin_cases x <;> apply Fin.ext
    · show win0_6.index t 0 * 16 + 1 * (a : ℕ) = (a : ℕ)
      rw [h0]; omega
    · show win0_6.index t 1 * 8 + 1 * (b : ℕ) = (b : ℕ)
      rw [h1]; omega
  rw [e]
  unfold V hostOps0
  after_results
  pointwise []

theorem at7 : ∀ t : Fin cfg0.N, win0_7.index t 0 = 0 ∧ win0_7.index t 1 = 0 :=
  (by decide +kernel : ∀ t : Fin grid0.N, win0_7.index t 0 = 0 ∧ win0_7.index t 1 = 0)

/-- Window 7's block at any point. -/
theorem blk7 (c : Dev nD) (t : Fin cfg0.N) (b : Fin 128) :
    (iblk m c 7 t : Vec Ideal S1x128 .f32) (ix2 0 b) = arg7 m c (ix2 0 b) := by
  have e : (iblk m c 7 t : Vec Ideal S1x128 .f32) (ix2 0 b) = (V m c main_v7 : Vec Ideal S1x128 .f32) (ix2 0 b) := by
    show (V m c main_v7 : Vec Ideal S1x128 .f32) (((cfg0.win 7).blk t).view.emb (ix2 0 b)) = _
    congr 1
    funext x
    obtain ⟨h0, h1⟩ := at7 t
    fin_cases x <;> apply Fin.ext
    · show win0_7.index t 0 * 1 + 1 * ((0 : Fin 1) : ℕ) = ((0 : Fin 1) : ℕ)
      rw [h0]; omega
    · show win0_7.index t 1 * 128 + 1 * (b : ℕ) = (b : ℕ)
      rw [h1]; omega
  rw [e]
  unfold V hostOps0
  after_results
  pointwise []

theorem at8 : ∀ t : Fin cfg0.N, win0_8.index t 0 = 0 ∧ win0_8.index t 1 = 0 :=
  (by decide +kernel : ∀ t : Fin grid0.N, win0_8.index t 0 = 0 ∧ win0_8.index t 1 = 0)

/-- Window 8's block at any point. -/
theorem blk8 (c : Dev nD) (t : Fin cfg0.N) (a : Fin 128) :
    (iblk m c 8 t : Vec Ideal S128x1 .f32) (ix2 a 0) = arg7 m c (ix2 0 a) * arg9 m c (ix1 a) := by
  have e : (iblk m c 8 t : Vec Ideal S128x1 .f32) (ix2 a 0) = (V m c main_v11 : Vec Ideal S128x1 .f32) (ix2 a 0) := by
    show (V m c main_v11 : Vec Ideal S128x1 .f32) (((cfg0.win 8).blk t).view.emb (ix2 a 0)) = _
    congr 1
    funext x
    obtain ⟨h0, h1⟩ := at8 t
    fin_cases x <;> apply Fin.ext
    · show win0_8.index t 0 * 128 + 1 * (a : ℕ) = (a : ℕ)
      rw [h0]; omega
    · show win0_8.index t 1 * 1 + 1 * ((0 : Fin 1) : ℕ) = ((0 : Fin 1) : ℕ)
      rw [h1]; omega
  rw [e]
  unfold V hostOps0
  after_results
  pointwise []

theorem at9 : ∀ t : Fin cfg0.N, win0_9.index t 0 = 0 ∧ win0_9.index t 1 = 0 :=
  (by decide +kernel : ∀ t : Fin grid0.N, win0_9.index t 0 = 0 ∧ win0_9.index t 1 = 0)

/-- Window 9's block at any point. -/
theorem blk9 (c : Dev nD) (t : Fin cfg0.N) (a : Fin 128) (b : Fin 32) :
    (iblk m c 9 t : Vec Ideal S128x32 .f32) (ix2 a b) = arg7 m c (ix2 ⟨1 + b, by omega⟩ a) := by
  have e : (iblk m c 9 t : Vec Ideal S128x32 .f32) (ix2 a b) = (V m c main_v13 : Vec Ideal S128x32 .f32) (ix2 a b) := by
    show (V m c main_v13 : Vec Ideal S128x32 .f32) (((cfg0.win 9).blk t).view.emb (ix2 a b)) = _
    congr 1
    funext x
    obtain ⟨h0, h1⟩ := at9 t
    fin_cases x <;> apply Fin.ext
    · show win0_9.index t 0 * 128 + 1 * (a : ℕ) = (a : ℕ)
      rw [h0]; omega
    · show win0_9.index t 1 * 32 + 1 * (b : ℕ) = (b : ℕ)
      rw [h1]; omega
  rw [e]
  unfold V hostOps0
  after_results
  pointwise []

theorem at10 : ∀ t : Fin cfg0.N, win0_10.index t 0 = 0 ∧ win0_10.index t 1 = 0 :=
  (by decide +kernel : ∀ t : Fin grid0.N, win0_10.index t 0 = 0 ∧ win0_10.index t 1 = 0)

/-- Window 10's block at any point. -/
theorem blk10 (c : Dev nD) (t : Fin cfg0.N) (a : Fin 128) (b : Fin 16) :
    (iblk m c 10 t : Vec Ideal S128x16 .f32) (ix2 a b) = arg7 m c (ix2 ⟨33 + b, by omega⟩ a) := by
  have e : (iblk m c 10 t : Vec Ideal S128x16 .f32) (ix2 a b) = (V m c main_v15 : Vec Ideal S128x16 .f32) (ix2 a b) := by
    show (V m c main_v15 : Vec Ideal S128x16 .f32) (((cfg0.win 10).blk t).view.emb (ix2 a b)) = _
    congr 1
    funext x
    obtain ⟨h0, h1⟩ := at10 t
    fin_cases x <;> apply Fin.ext
    · show win0_10.index t 0 * 128 + 1 * (a : ℕ) = (a : ℕ)
      rw [h0]; omega
    · show win0_10.index t 1 * 16 + 1 * (b : ℕ) = (b : ℕ)
      rw [h1]; omega
  rw [e]
  unfold V hostOps0
  after_results
  pointwise []

theorem at11 : ∀ t : Fin cfg0.N, win0_11.index t 0 = 0 ∧ win0_11.index t 1 = 0 :=
  (by decide +kernel : ∀ t : Fin grid0.N, win0_11.index t 0 = 0 ∧ win0_11.index t 1 = 0)

/-- Window 11's block at any point. -/
theorem blk11 (c : Dev nD) (t : Fin cfg0.N) (a : Fin 128) (b : Fin 16) :
    (iblk m c 11 t : Vec Ideal S128x16 .f32) (ix2 a b) = arg7 m c (ix2 ⟨49 + b, by omega⟩ a) := by
  have e : (iblk m c 11 t : Vec Ideal S128x16 .f32) (ix2 a b) = (V m c main_v17 : Vec Ideal S128x16 .f32) (ix2 a b) := by
    show (V m c main_v17 : Vec Ideal S128x16 .f32) (((cfg0.win 11).blk t).view.emb (ix2 a b)) = _
    congr 1
    funext x
    obtain ⟨h0, h1⟩ := at11 t
    fin_cases x <;> apply Fin.ext
    · show win0_11.index t 0 * 128 + 1 * (a : ℕ) = (a : ℕ)
      rw [h0]; omega
    · show win0_11.index t 1 * 16 + 1 * (b : ℕ) = (b : ℕ)
      rw [h1]; omega
  rw [e]
  unfold V hostOps0
  after_results
  pointwise []

theorem at12 : ∀ t : Fin cfg0.N, win0_12.index t 0 = 0 ∧ win0_12.index t 1 = 0 :=
  (by decide +kernel : ∀ t : Fin grid0.N, win0_12.index t 0 = 0 ∧ win0_12.index t 1 = 0)

/-- Window 12's block at any point. -/
theorem blk12 (c : Dev nD) (t : Fin cfg0.N) (a : Fin 128) :
    (iblk m c 12 t : Vec Ideal S128x1 .f32) (ix2 a 0) = arg8 m c (ix1 a) := by
  have e : (iblk m c 12 t : Vec Ideal S128x1 .f32) (ix2 a 0) = (V m c main_v18 : Vec Ideal S128x1 .f32) (ix2 a 0) := by
    show (V m c main_v18 : Vec Ideal S128x1 .f32) (((cfg0.win 12).blk t).view.emb (ix2 a 0)) = _
    congr 1
    funext x
    obtain ⟨h0, h1⟩ := at12 t
    fin_cases x <;> apply Fin.ext
    · show win0_12.index t 0 * 128 + 1 * (a : ℕ) = (a : ℕ)
      rw [h0]; omega
    · show win0_12.index t 1 * 1 + 1 * ((0 : Fin 1) : ℕ) = ((0 : Fin 1) : ℕ)
      rw [h1]; omega
  rw [e]
  unfold V hostOps0
  after_results
  pointwise []

theorem at13 : ∀ t : Fin cfg0.N, win0_13.index t 0 = 0 ∧ win0_13.index t 1 = 0 :=
  (by decide +kernel : ∀ t : Fin grid0.N, win0_13.index t 0 = 0 ∧ win0_13.index t 1 = 0)

/-- Window 13's block at any point. -/
theorem blk13 (c : Dev nD) (t : Fin cfg0.N) (a : Fin 128) :
    (iblk m c 13 t : Vec Ideal S128x1 .f32) (ix2 a 0) = arg9 m c (ix1 a) := by
  have e : (iblk m c 13 t : Vec Ideal S128x1 .f32) (ix2 a 0) = (V m c main_v19 : Vec Ideal S128x1 .f32) (ix2 a 0) := by
    show (V m c main_v19 : Vec Ideal S128x1 .f32) (((cfg0.win 13).blk t).view.emb (ix2 a 0)) = _
    congr 1
    funext x
    obtain ⟨h0, h1⟩ := at13 t
    fin_cases x <;> apply Fin.ext
    · show win0_13.index t 0 * 128 + 1 * (a : ℕ) = (a : ℕ)
      rw [h0]; omega
    · show win0_13.index t 1 * 1 + 1 * ((0 : Fin 1) : ℕ) = ((0 : Fin 1) : ℕ)
      rw [h1]; omega
  rw [e]
  unfold V hostOps0
  after_results
  pointwise []

theorem at14 : ∀ t : Fin cfg0.N, win0_14.index t 0 = 0 ∧ win0_14.index t 1 = 0 :=
  (by decide +kernel : ∀ t : Fin grid0.N, win0_14.index t 0 = 0 ∧ win0_14.index t 1 = 0)

/-- Window 14's block at any point. -/
theorem blk14 (c : Dev nD) (t : Fin cfg0.N) (a : Fin 128) :
    (iblk m c 14 t : Vec Ideal S128x1 .f32) (ix2 a 0) = arg10 m c (ix1 a) := by
  have e : (iblk m c 14 t : Vec Ideal S128x1 .f32) (ix2 a 0) = (V m c main_v20 : Vec Ideal S128x1 .f32) (ix2 a 0) := by
    show (V m c main_v20 : Vec Ideal S128x1 .f32) (((cfg0.win 14).blk t).view.emb (ix2 a 0)) = _
    congr 1
    funext x
    obtain ⟨h0, h1⟩ := at14 t
    fin_cases x <;> apply Fin.ext
    · show win0_14.index t 0 * 128 + 1 * (a : ℕ) = (a : ℕ)
      rw [h0]; omega
    · show win0_14.index t 1 * 1 + 1 * ((0 : Fin 1) : ℕ) = ((0 : Fin 1) : ℕ)
      rw [h1]; omega
  rw [e]
  unfold V hostOps0
  after_results
  pointwise []

theorem at15 : ∀ t : Fin cfg0.N, win0_15.index t 0 = 0 ∧ win0_15.index t 1 = 0 :=
  (by decide +kernel : ∀ t : Fin grid0.N, win0_15.index t 0 = 0 ∧ win0_15.index t 1 = 0)

/-- Window 15's block at any point. -/
theorem blk15 (c : Dev nD) (t : Fin cfg0.N) (a : Fin 128) (b : Fin 128) :
    (iblk m c 15 t : Vec Ideal S128x128 .bf16) (ix2 a b) = arg11 m c (ix2 b a) := by
  have e : (iblk m c 15 t : Vec Ideal S128x128 .bf16) (ix2 a b) = (V m c main_v22 : Vec Ideal S128x128 .bf16) (ix2 a b) := by
    show (V m c main_v22 : Vec Ideal S128x128 .bf16) (((cfg0.win 15).blk t).view.emb (ix2 a b)) = _
    congr 1
    funext x
    obtain ⟨h0, h1⟩ := at15 t
    fin_cases x <;> apply Fin.ext
    · show win0_15.index t 0 * 128 + 1 * (a : ℕ) = (a : ℕ)
      rw [h0]; omega
    · show win0_15.index t 1 * 128 + 1 * (b : ℕ) = (b : ℕ)
      rw [h1]; omega
  rw [e]
  unfold V hostOps0
  after_results
  pointwise []

theorem at16 : ∀ t : Fin cfg0.N, win0_16.index t 0 = 0 ∧ win0_16.index t 1 = 0 :=
  (by decide +kernel : ∀ t : Fin grid0.N, win0_16.index t 0 = 0 ∧ win0_16.index t 1 = 0)

/-- Window 16's block at any point. -/
theorem blk16 (c : Dev nD) (t : Fin cfg0.N) (a : Fin 128) :
    (iblk m c 16 t : Vec Ideal S128x1 .f32) (ix2 a 0) = arg12 m c (ix1 a) := by
  have e : (iblk m c 16 t : Vec Ideal S128x1 .f32) (ix2 a 0) = (V m c main_v23 : Vec Ideal S128x1 .f32) (ix2 a 0) := by
    show (V m c main_v23 : Vec Ideal S128x1 .f32) (((cfg0.win 16).blk t).view.emb (ix2 a 0)) = _
    congr 1
    funext x
    obtain ⟨h0, h1⟩ := at16 t
    fin_cases x <;> apply Fin.ext
    · show win0_16.index t 0 * 128 + 1 * (a : ℕ) = (a : ℕ)
      rw [h0]; omega
    · show win0_16.index t 1 * 1 + 1 * ((0 : Fin 1) : ℕ) = ((0 : Fin 1) : ℕ)
      rw [h1]; omega
  rw [e]
  unfold V hostOps0
  after_results
  pointwise []

theorem at17 : ∀ t : Fin cfg0.N, win0_17.index t 0 = 0 ∧ win0_17.index t 1 = 0 :=
  (by decide +kernel : ∀ t : Fin grid0.N, win0_17.index t 0 = 0 ∧ win0_17.index t 1 = 0)

/-- Window 17's block at any point. -/
theorem blk17 (c : Dev nD) (t : Fin cfg0.N) (a : Fin 128) :
    (iblk m c 17 t : Vec Ideal S128x1 .f32) (ix2 a 0) = arg13 m c (ix1 a) := by
  have e : (iblk m c 17 t : Vec Ideal S128x1 .f32) (ix2 a 0) = (V m c main_v24 : Vec Ideal S128x1 .f32) (ix2 a 0) := by
    show (V m c main_v24 : Vec Ideal S128x1 .f32) (((cfg0.win 17).blk t).view.emb (ix2 a 0)) = _
    congr 1
    funext x
    obtain ⟨h0, h1⟩ := at17 t
    fin_cases x <;> apply Fin.ext
    · show win0_17.index t 0 * 128 + 1 * (a : ℕ) = (a : ℕ)
      rw [h0]; omega
    · show win0_17.index t 1 * 1 + 1 * ((0 : Fin 1) : ℕ) = ((0 : Fin 1) : ℕ)
      rw [h1]; omega
  rw [e]
  unfold V hostOps0
  after_results
  pointwise []

theorem at18 : ∀ t : Fin cfg0.N, win0_18.index t 0 = 0 ∧ win0_18.index t 1 = 0 :=
  (by decide +kernel : ∀ t : Fin grid0.N, win0_18.index t 0 = 0 ∧ win0_18.index t 1 = 0)

/-- Window 18's block at any point. -/
theorem blk18 (c : Dev nD) (t : Fin cfg0.N) (a : Fin 128) :
    (iblk m c 18 t : Vec Ideal S128x1 .f32) (ix2 a 0) = arg14 m c (ix1 a) := by
  have e : (iblk m c 18 t : Vec Ideal S128x1 .f32) (ix2 a 0) = (V m c main_v25 : Vec Ideal S128x1 .f32) (ix2 a 0) := by
    show (V m c main_v25 : Vec Ideal S128x1 .f32) (((cfg0.win 18).blk t).view.emb (ix2 a 0)) = _
    congr 1
    funext x
    obtain ⟨h0, h1⟩ := at18 t
    fin_cases x <;> apply Fin.ext
    · show win0_18.index t 0 * 128 + 1 * (a : ℕ) = (a : ℕ)
      rw [h0]; omega
    · show win0_18.index t 1 * 1 + 1 * ((0 : Fin 1) : ℕ) = ((0 : Fin 1) : ℕ)
      rw [h1]; omega
  rw [e]
  unfold V hostOps0
  after_results
  pointwise []

theorem at19 : ∀ t : Fin cfg0.N, win0_19.index t 0 = 0 ∧ win0_19.index t 1 = 0 :=
  (by decide +kernel : ∀ t : Fin grid0.N, win0_19.index t 0 = 0 ∧ win0_19.index t 1 = 0)

/-- Window 19's block at any point. -/
theorem blk19 (c : Dev nD) (t : Fin cfg0.N) (a : Fin 128) (b : Fin 64) :
    (iblk m c 19 t : Vec Ideal S128x64 .bf16) (ix2 a b) = arg15 m c (ix2 a b) := by
  have e : (iblk m c 19 t : Vec Ideal S128x64 .bf16) (ix2 a b) = (V m c main_v26 : Vec Ideal S128x64 .bf16) (ix2 a b) := by
    show (V m c main_v26 : Vec Ideal S128x64 .bf16) (((cfg0.win 19).blk t).view.emb (ix2 a b)) = _
    congr 1
    funext x
    obtain ⟨h0, h1⟩ := at19 t
    fin_cases x <;> apply Fin.ext
    · show win0_19.index t 0 * 128 + 1 * (a : ℕ) = (a : ℕ)
      rw [h0]; omega
    · show win0_19.index t 1 * 64 + 1 * (b : ℕ) = (b : ℕ)
      rw [h1]; omega
  rw [e]
  unfold V hostOps0
  after_results
  pointwise []

theorem at20 : ∀ t : Fin cfg0.N, win0_20.index t 0 = 0 ∧ win0_20.index t 1 = 0 :=
  (by decide +kernel : ∀ t : Fin grid0.N, win0_20.index t 0 = 0 ∧ win0_20.index t 1 = 0)

/-- Window 20's block at any point. -/
theorem blk20 (c : Dev nD) (t : Fin cfg0.N) (b : Fin 64) :
    (iblk m c 20 t : Vec Ideal S1x64 .f32) (ix2 0 b) = arg16 m c (ix1 b) := by
  have e : (iblk m c 20 t : Vec Ideal S1x64 .f32) (ix2 0 b) = (V m c main_v27 : Vec Ideal S1x64 .f32) (ix2 0 b) := by
    show (V m c main_v27 : Vec Ideal S1x64 .f32) (((cfg0.win 20).blk t).view.emb (ix2 0 b)) = _
    congr 1
    funext x
    obtain ⟨h0, h1⟩ := at20 t
    fin_cases x <;> apply Fin.ext
    · show win0_20.index t 0 * 1 + 1 * ((0 : Fin 1) : ℕ) = ((0 : Fin 1) : ℕ)
      rw [h0]; omega
    · show win0_20.index t 1 * 64 + 1 * (b : ℕ) = (b : ℕ)
      rw [h1]; omega
  rw [e]
  unfold V hostOps0
  after_results
  pointwise []

theorem at0 : ∀ t : Fin cfg0.N, win0_0.index t 0 = 0 ∧ win0_0.index t 1 = t.val :=
  (by decide +kernel : ∀ t : Fin grid0.N, win0_0.index t 0 = 0 ∧ win0_0.index t 1 = t.val)

theorem points (t : Fin cfg0.N) : t.val < 32 := lt_of_lt_of_eq t.isLt N_0

/-- The values' block at point `t`: rows `128·t` and on. -/
theorem blk0 (c : Dev nD) (t : Fin cfg0.N) (b : Fin 128) (v : Fin 100) :
    (iblk m c 0 t : Vec Ideal S1x12800 .f32) (ix2 0 (at100 b v))
      = arg0 m c (ix2 ⟨128 * t.val + b, by have := points t; omega⟩ v) := by
  have ht := points t
  have hb := b.isLt
  have hv := v.isLt
  have e : (iblk m c 0 t : Vec Ideal S1x12800 .f32) (ix2 0 (at100 b v))
      = (V m c main_v0 : Vec Ideal S1x409600 .f32) (ix2 0 ⟨12800 * t.val + (b * 100 + v), by omega⟩) := by
    show (V m c main_v0 : Vec Ideal S1x409600 .f32) (((cfg0.win 0).blk t).view.emb (ix2 0 (at100 b v))) = _
    congr 1
    funext x
    obtain ⟨h0, h1⟩ := at0 t
    fin_cases x <;> apply Fin.ext
    · show win0_0.index t 0 * 1 + 1 * ((0 : Fin 1) : ℕ) = ((0 : Fin 1) : ℕ)
      rw [h0]; omega
    · show win0_0.index t 1 * 12800 + 1 * ((b : ℕ) * 100 + v) = 12800 * t.val + (b * 100 + v)
      rw [h1]; omega
  rw [e]
  unfold V hostOps0
  after_results
  pointwise []
  show arg0 m c (ix2 _ v) = _
  congr 2
  apply Fin.ext
  show (12800 * t.val + (b * 100 + v)) / 100 = 128 * t.val + b
  omega

end Cert.Encoder

end
-- ==== Proof.Encoder.Reads.lean ====
/-
When the arguments' entries are the real numbers and the indices of `Nums`, and the one function both programs compute.
-/
module

public import proofs.«01_k».proof.Proof.Encoder.Body

@[expose] public section

noncomputable section

namespace Cert.Encoder

open scoped BigOperators

/-- The first thirteen arguments, entry by entry, are the real numbers and indices of `d`, the values those of `x`. -/
structure Reads (a0 : Fin 4096 → Fin 100 → EReal) (a1 a2 a3 : Fin 100 → BitVec 32) (a4 : Fin 100 → Fin 32 → EReal)
    (a5 a6 : Fin 8 → Fin 16 → EReal) (a7 : Fin 65 → Fin 128 → EReal) (a8 a9 a10 : Fin 128 → EReal)
    (a11 : Fin 128 → Fin 128 → EReal) (a12 : Fin 128 → EReal) (d : Nums) (x : Fin 4096 → Fin 100 → ℝ) : Prop where
  x : ∀ b v, a0 b v = (x b v : EReal)
  n : ∀ v, a1 v = BitVec.ofNat 32 (d.n v)
  p : ∀ v, a2 v = BitVec.ofNat 32 (d.p v)
  q : ∀ v, a3 v = BitVec.ofNat 32 (d.q v)
  T : ∀ v j, a4 v j = (d.T j v : EReal)
  U : ∀ v j, a5 v j = (d.U j v : EReal)
  V : ∀ v j, a6 v j = (d.V j v : EReal)
  w : ∀ k, a7 0 k = (d.w k : EReal)
  A : ∀ (j : Fin 32) k, a7 ⟨1 + j, by omega⟩ k = (d.A k j : EReal)
  B : ∀ (j : Fin 16) k, a7 ⟨33 + j, by omega⟩ k = (d.B k j : EReal)
  C : ∀ (j : Fin 16) k, a7 ⟨49 + j, by omega⟩ k = (d.C k j : EReal)
  b1 : ∀ k, a8 k = (d.b1 k : EReal)
  g1 : ∀ k, a9 k = (d.g1 k : EReal)
  e1 : ∀ k, a10 k = (d.e1 k : EReal)
  W2 : ∀ j k, a11 j k = (d.W2 j k : EReal)
  b2 : ∀ k, a12 k = (d.b2 k : EReal)

/-- The last layer over a normalised row: scaled, shifted, cut at zero, times the last weight, shifted. -/
def lastLayer (row : Fin 128 → ℝ) (g2 e2 : Fin 128 → EReal) (W3 : Fin 128 → Fin 64 → EReal) (b3 : Fin 64 → EReal)
    (o : Fin 64) : EReal :=
  ∑ k, max ((row k : EReal) * g2 k + e2 k) 0 * W3 k o + b3 o

/-- The second layer's normalised row as the reference computes it. -/
def Nums.rRow (d : Nums) (x : ℝ) (v : Fin 100) : Fin 128 → ℝ :=
  rN (rZ (rY (fun k => x * d.w k + d.base v k) d.g1 d.e1) (fun j k => d.W2 j k) d.b2)

/-- **The kernel's row is the reference's.** -/
theorem Nums.row_eq (d : Nums) (x : ℝ) (v : Fin 100) : d.kRow x v = d.rRow x v :=
  funext fun k => Cert.Encoder.row_eq x d.w (d.base v) d.g1 d.e1 (fun j k => d.W2 j k) d.b2 k

/-- The real numbers and indices behind thirteen arguments. -/
def numsOf (a1 a2 a3 : Fin 100 → BitVec 32) (a4 : Fin 100 → Fin 32 → EReal)
    (a5 a6 : Fin 8 → Fin 16 → EReal) (a7 : Fin 65 → Fin 128 → EReal) (a8 a9 a10 : Fin 128 → EReal)
    (a11 : Fin 128 → Fin 128 → EReal) (a12 : Fin 128 → EReal) : Nums where
  w k := (a7 0 k).toReal
  A k j := (a7 ⟨1 + j, by omega⟩ k).toReal
  B k j := (a7 ⟨33 + j, by omega⟩ k).toReal
  C k j := (a7 ⟨49 + j, by omega⟩ k).toReal
  T j v := (a4 v j).toReal
  U j v := (a5 v j).toReal
  V j v := (a6 v j).toReal
  b1 k := (a8 k).toReal
  g1 k := (a9 k).toReal
  e1 k := (a10 k).toReal
  W2 j k := (a11 j k).toReal
  b2 k := (a12 k).toReal
  n v := ⟨(a1 v).toNat % 100, Nat.mod_lt _ (by norm_num)⟩
  p v := ⟨(a2 v).toNat % 8, Nat.mod_lt _ (by norm_num)⟩
  q v := ⟨(a3 v).toNat % 8, Nat.mod_lt _ (by norm_num)⟩

/-- An extended real of size below `+∞` is a real number. -/
def Fin1 (x : EReal) : Prop := x ≠ ⊤ ∧ x ≠ ⊥

theorem Fin1.eq {x : EReal} (h : Fin1 x) : x = (x.toReal : EReal) := (EReal.coe_toReal h.1 h.2).symm

theorem word_mod {a : BitVec 32} {n : ℕ} (h : a.toNat < n) : a = BitVec.ofNat 32 (a.toNat % n) := by
  rw [Nat.mod_eq_of_lt h]; simp

/-- Finite arguments with indices in range are the numbers behind them. -/
theorem reads_of (a0 : Fin 4096 → Fin 100 → EReal) (a1 a2 a3 : Fin 100 → BitVec 32) (a4 : Fin 100 → Fin 32 → EReal)
    (a5 a6 : Fin 8 → Fin 16 → EReal) (a7 : Fin 65 → Fin 128 → EReal) (a8 a9 a10 : Fin 128 → EReal)
    (a11 : Fin 128 → Fin 128 → EReal) (a12 : Fin 128 → EReal)
    (h0 : ∀ b v, Fin1 (a0 b v)) (h1 : ∀ v, (a1 v).toNat < 100) (h2 : ∀ v, (a2 v).toNat < 8) (h3 : ∀ v, (a3 v).toNat < 8)
    (h4 : ∀ v j, Fin1 (a4 v j)) (h5 : ∀ v j, Fin1 (a5 v j)) (h6 : ∀ v j, Fin1 (a6 v j)) (h7 : ∀ j k, Fin1 (a7 j k))
    (h8 : ∀ k, Fin1 (a8 k)) (h9 : ∀ k, Fin1 (a9 k)) (h10 : ∀ k, Fin1 (a10 k)) (h11 : ∀ j k, Fin1 (a11 j k))
    (h12 : ∀ k, Fin1 (a12 k)) :
    Reads a0 a1 a2 a3 a4 a5 a6 a7 a8 a9 a10 a11 a12 (numsOf a1 a2 a3 a4 a5 a6 a7 a8 a9 a10 a11 a12)
      (fun b v => (a0 b v).toReal) where
  x b v := (h0 b v).eq
  n v := word_mod (h1 v)
  p v := word_mod (h2 v)
  q v := word_mod (h3 v)
  T v j := (h4 v j).eq
  U v j := (h5 v j).eq
  V v j := (h6 v j).eq
  w k := (h7 0 k).eq
  A j k := (h7 _ k).eq
  B j k := (h7 _ k).eq
  C j k := (h7 _ k).eq
  b1 k := (h8 k).eq
  g1 k := (h9 k).eq
  e1 k := (h10 k).eq
  W2 j k := (h11 j k).eq
  b2 k := (h12 k).eq

end Cert.Encoder

end
-- ==== Proof.Encoder.Array.lean ====
/-
The kernel's array after the run: at every entry the last layer over the kernel's normalised row.
-/
module

public import proofs.«01_k».proof.Proof.Encoder.Points
public import proofs.«01_k».proof.Proof.Encoder.Host
public import proofs.«01_k».proof.Proof.Encoder.Reads

@[expose] public section

set_option maxRecDepth 16384

noncomputable section

namespace Cert.Encoder

open Cert.KernelIdeal Cert.KernelIdeal.Gen Idealize.ShloMosaic Idealize.ShloMosaic.TcCoe Idealize.SL.Sem

variable (m : (ℓ : Loc nD τ sig) → Buf (Elt Ideal) ℓ)

/-- The kernel's arguments are the numbers of `d` and `x`. -/
abbrev KReads (c : Dev nD) (d : Nums) (x : Fin 4096 → Fin 100 → ℝ) : Prop :=
  Reads (fun b v => arg0 m c (ix2 b v)) (fun v => arg1 m c (ix1 v)) (fun v => arg2 m c (ix1 v)) (fun v => arg3 m c (ix1 v))
    (fun v j => arg4 m c (ix2 v j)) (fun v j => arg5 m c (ix2 v j)) (fun v j => arg6 m c (ix2 v j))
    (fun j k => arg7 m c (ix2 j k)) (fun k => arg8 m c (ix1 k)) (fun k => arg9 m c (ix1 k)) (fun k => arg10 m c (ix1 k))
    (fun j k => arg11 m c (ix2 j k)) (fun k => arg12 m c (ix1 k)) d x

/-- The first grid point. -/
abbrev pt0 : Fin cfg0.N := ⟨0, by rw [show cfg0.N = 32 from N_0]; norm_num⟩

/-- The scratch after any point is what the first point filled it with. -/
theorem scratch_eq (c : Dev nD) : ∀ (n : ℕ) (hn : n < cfg0.N),
    (outsAt0 m c n hn).2 = (fill0 m c pt0, fill1 m c pt0, fill2 m c pt0, fill3 m c pt0)
  | 0, hn => by
    have h := scratch0_first m c pt0 rfl
    have h1 := scratch1_first m c pt0 rfl
    have h2 := scratch2_first m c pt0 rfl
    have h3 := scratch3_first m c pt0 rfl
    exact Prod.ext h (Prod.ext h1 (Prod.ext h2 h3))
  | n + 1, hn => by
    have hlt : n + 1 < 32 := lt_of_lt_of_eq hn N_0
    rw [scratch_next m c n hn (by omega)]
    exact scratch_eq c n _

/-- Every point's output block is the body's, over what the first point filled the scratch with. -/
theorem out_eq (c : Dev nD) (t : Fin cfg0.N) :
    (outsAt0 m c t.val t.isLt).1 = bodyOut m c t (fill0 m c pt0) (fill1 m c pt0) (fill2 m c pt0) (fill3 m c pt0) := by
  obtain ⟨n, hn⟩ := t
  cases n with
  | zero => exact out_first m c pt0 rfl
  | succ n =>
    have hlt : n + 1 < 32 := lt_of_lt_of_eq hn N_0
    show (outsAt0 m c (n + 1) hn).1 = _
    rw [out_next m c n hn (by omega), scratch_eq m c n]

variable {m} {c : Dev nD} {d : Nums} {x : Fin 4096 → Fin 100 → ℝ}

/-- The table part at any point. -/
theorem part_eq (h : KReads m c d x) (t : Fin cfg0.N) (k : Fin 128) (v : Fin 100) :
    k0_pay6 (hotQ m c t) (partNP m c t) (wtQ m c t) (tabQ m c t) (iblk m c 12 t) (ix2 k v) = (d.base v k : EReal) :=
  base_apply d (iblk m c 1 t) (iblk m c 2 t) (iblk m c 3 t) (iblk m c 9 t) (iblk m c 4 t) (iblk m c 10 t) (iblk m c 11 t)
    (iblk m c 5 t) (iblk m c 6 t) (iblk m c 12 t)
    (fun v => (blk1 m c t v).trans (h.n v)) (fun v => (blk2 m c t v).trans (h.p v)) (fun v => (blk3 m c t v).trans (h.q v))
    (fun k j => (blk9 m c t k j).trans (h.A j k)) (fun j v => (blk4 m c t j v).trans (h.T v j))
    (fun k j => (blk10 m c t k j).trans (h.B j k)) (fun j v => (blk5 m c t j v).trans (h.U v j))
    (fun k j => (blk11 m c t k j).trans (h.C j k)) (fun j v => (blk6 m c t j v).trans (h.V v j))
    (fun k => (blk12 m c t k).trans (h.b1 k)) k v

theorem fill0_eq (h : KReads m c d x) (t : Fin cfg0.N) (k : Fin 128) (r : Fin 12800) :
    fill0 m c t (ix2 k r) = (d.base (col r) k * d.g1 k : ℝ) :=
  carried0 d _ _ _ _ _ _ (part_eq h t) (fun k => (blk13 m c t k).trans (h.g1 k)) k r

theorem fill1_eq (h : KReads m c d x) (t : Fin cfg0.N) (r : Fin 12800) :
    fill1 m c t (ix2 0 r) = (kMb (d.base (col r)) : EReal) :=
  carried1 d _ (mean_apply d _ _ _ _ _ (part_eq h t)) r

theorem fill2_eq (h : KReads m c d x) (t : Fin cfg0.N) (r : Fin 12800) :
    fill2 m c t (ix2 0 r) = (2 * kCv d.w (d.base (col r)) : ℝ) :=
  carried2 d _ (cov_apply d _ _ _ _ _ _ (part_eq h t) (fun k => (blk7 m c t k).trans (h.w k))) r

theorem fill3_eq (h : KReads m c d x) (t : Fin cfg0.N) (r : Fin 12800) :
    fill3 m c t (ix2 0 r) = (kVb (d.base (col r)) : EReal) :=
  carried3 d _ (var_apply d _ _ _ _ _ (part_eq h t)) r

/-- **The body at one entry**, over any blocks and scratch that hold the numbers. -/
theorem body_apply (d : Nums) (x0 : Vec Ideal S1x12800 .f32) (x7 : Vec Ideal S1x128 .f32) (x8 x13 x14 : Vec Ideal S128x1 .f32)
    (x15 : Vec Ideal S128x128 .bf16) (x16 x17 x18 : Vec Ideal S128x1 .f32) (x19 : Vec Ideal S128x64 .bf16)
    (x20 : Vec Ideal S1x64 .f32) (s0 : Vec Ideal S128x12800 .f32) (s1 s2 s3 : Vec Ideal S1x12800 .f32)
    (b : Fin 128) (v : Fin 100) (o : Fin 64) (y : ℝ)
    (h0 : x0 (ix2 0 (at100 b v)) = (y : EReal)) (h7 : ∀ k, x7 (ix2 0 k) = (d.w k : EReal))
    (h8 : ∀ k, x8 (ix2 k 0) = ((d.w k * d.g1 k : ℝ) : EReal)) (h13 : ∀ k, x13 (ix2 k 0) = (d.g1 k : EReal))
    (h14 : ∀ k, x14 (ix2 k 0) = (d.e1 k : EReal)) (h15 : ∀ k j, x15 (ix2 k j) = (d.W2 j k : EReal))
    (h16 : ∀ k, x16 (ix2 k 0) = (d.b2 k : EReal))
    (hs0 : ∀ k r, s0 (ix2 k r) = ((d.base (col r) k * d.g1 k : ℝ) : EReal))
    (hs1 : ∀ r, s1 (ix2 0 r) = (kMb (d.base (col r)) : EReal))
    (hs2 : ∀ r, s2 (ix2 0 r) = ((2 * kCv d.w (d.base (col r)) : ℝ) : EReal))
    (hs3 : ∀ r, s3 (ix2 0 r) = (kVb (d.base (col r)) : EReal)) :
    k0_pay1 (k0_pay22 (k0_pay12 (F := Ideal)) (k0_pay19 x7 x0 s2 s3) (k0_pay20 x7 x0 s1 s2 s3) (k0_pay21 x0 x8) s0 x13 x14
        x15 x16 x17 x18) x19 x20 (ix3 b v o)
      = lastLayer (d.kRow y v) (fun k => x17 (ix2 k 0)) (fun k => x18 (ix2 k 0)) (fun k o => x19 (ix2 k o))
          (fun o => x20 (ix2 0 o)) o := by
  rw [last_apply]
  have hrow := row_apply d (k0_pay19 x7 x0 s2 s3) (k0_pay20 x7 x0 s1 s2 s3) (k0_pay21 x0 x8) s0 x13 x14 x15 x16 x17 x18
    (at100 b v) y (inv_apply d _ _ _ _ _ _ h7 h0 (hs2 _) (hs3 _)) (mean_inv_apply d _ _ _ _ _ _ _ h7 h0 (hs1 _) (hs2 _) (hs3 _))
    (fun k => scaled_apply d _ _ _ _ k h0 h8) (fun k => hs0 k _) h13 h14 h15 h16
  unfold lastLayer
  congr 1
  refine Finset.sum_congr rfl fun k _ => ?_
  rw [hrow k, col_at100]

/-- **The output block of a point**, entry by entry. -/
theorem block_eq (h : KReads m c d x) (t : Fin cfg0.N) (b : Fin 128) (v : Fin 100) (o : Fin 64) :
    (outsAt0 m c t.val t.isLt).1 (ix3 b v o)
      = lastLayer (d.kRow (x ⟨128 * t.val + b, by have := points t; omega⟩ v) v) (fun k => arg13 m c (ix1 k))
          (fun k => arg14 m c (ix1 k)) (fun k o => arg15 m c (ix2 k o)) (fun o => arg16 m c (ix1 o)) o := by
  have e := body_apply d (iblk m c 0 t) (iblk m c 7 t) (iblk m c 8 t) (iblk m c 13 t) (iblk m c 14 t) (iblk m c 15 t)
    (iblk m c 16 t) (iblk m c 17 t) (iblk m c 18 t) (iblk m c 19 t) (iblk m c 20 t) (fill0 m c pt0) (fill1 m c pt0)
    (fill2 m c pt0) (fill3 m c pt0) b v o _ ((blk0 m c t b v).trans (h.x _ v)) (fun k => (blk7 m c t k).trans (h.w k))
    (fun k => (blk8 m c t k).trans ((congrArg₂ (· * ·) (h.w k) (h.g1 k)).trans (EReal.coe_mul _ _).symm))
    (fun k => (blk13 m c t k).trans (h.g1 k)) (fun k => (blk14 m c t k).trans (h.e1 k))
    (fun k j => (blk15 m c t k j).trans (h.W2 j k)) (fun k => (blk16 m c t k).trans (h.b2 k))
    (fill0_eq h pt0) (fill1_eq h pt0) (fill2_eq h pt0) (fill3_eq h pt0)
  have e17 : (fun k => (iblk m c 17 t : Vec Ideal S128x1 .f32) (ix2 k 0)) = fun k => arg13 m c (ix1 k) := funext (blk17 m c t)
  have e18 : (fun k => (iblk m c 18 t : Vec Ideal S128x1 .f32) (ix2 k 0)) = fun k => arg14 m c (ix1 k) := funext (blk18 m c t)
  have e19 : (fun k o => (iblk m c 19 t : Vec Ideal S128x64 .bf16) (ix2 k o)) = fun k o => arg15 m c (ix2 k o) :=
    funext fun k => funext (blk19 m c t k)
  have e20 : (fun o => (iblk m c 20 t : Vec Ideal S1x64 .f32) (ix2 0 o)) = fun o => arg16 m c (ix1 o) := funext (blk20 m c t)
  rw [out_eq m c t]
  refine Eq.trans e ?_
  exact congr (congr (congr (congr (congrArg (lastLayer _) e17) e18) e19) e20) rfl

theorem at21 : ∀ t : Fin cfg0.N, win0_21.index t 0 = t.val ∧ win0_21.index t 1 = 0 ∧ win0_21.index t 2 = 0 :=
  (by decide +kernel : ∀ t : Fin grid0.N, win0_21.index t 0 = t.val ∧ win0_21.index t 1 = 0 ∧ win0_21.index t 2 = 0)

theorem flush21 : ∀ t : Fin cfg0.N, (cfg0.win 21).flush t = true :=
  (by decide +kernel : ∀ t : Fin grid0.N, win0_21.flush t = true)

/-- **The array after the run**, entry by entry. -/
theorem array_eq (h : KReads m c d x) (b : Fin 4096) (v : Fin 100) (o : Fin 64) :
    ((dats m 0 c).arrAt 21 cfg0.N : Vec Ideal S4096x100x64 .f32) (ix3 b v o)
      = lastLayer (d.kRow (x b v) v) (fun k => arg13 m c (ix1 k))
          (fun k => arg14 m c (ix1 k)) (fun k o => arg15 m c (ix2 k o)) (fun o => arg16 m c (ix1 o)) o := by
  have hb := b.isLt
  let t : Fin cfg0.N := ⟨b / 128, by rw [show cfg0.N = 32 from N_0]; omega⟩
  let b' : Fin 128 := ⟨b % 128, Nat.mod_lt _ (by norm_num)⟩
  have key := congrFun (Cert.KernelIdeal.Value.blocks21 m c t (flush21 t)) (ix3 b' v o)
  rw [Cert.KernelIdeal.Value.flushed21] at key
  have hr : (⟨128 * t.val + b', by have := points t; omega⟩ : Fin 4096) = b :=
    Fin.ext (by show 128 * ((b : ℕ) / 128) + (b : ℕ) % 128 = b; omega)
  have hblk := block_eq h t b' v o
  rw [hr] at hblk
  rw [← hblk]
  refine Eq.trans ?_ key
  show _ = ((dats m 0 c).arrAt 21 cfg0.N : Vec Ideal S4096x100x64 .f32) (((cfg0.win 21).blk t).view.emb (ix3 b' v o))
  congr 1
  funext a
  obtain ⟨h0, h1, h2⟩ := at21 t
  symm
  fin_cases a <;> apply Fin.ext
  · show win0_21.index t 0 * 128 + 1 * ((b : ℕ) % 128) = b
    rw [h0]; show (b : ℕ) / 128 * 128 + 1 * ((b : ℕ) % 128) = b; omega
  · show win0_21.index t 1 * 100 + 1 * (v : ℕ) = v
    rw [h1]; omega
  · show win0_21.index t 2 * 64 + 1 * (o : ℕ) = o
    rw [h2]; omega

end Cert.Encoder

end
-- ==== Proof.Encoder.Pre.lean ====
/-
The precondition read: where its tests are all ones, the thirteen arguments' entries are real numbers and the indices name
rows of their tables.
-/
module

public import proofs.«01_k».proof.Defs
public import proofs.«01_k».proof.Proof.Gen.Pre_finite_and_in_range
public import proofs.«01_k».proof.Proof.Encoder.Array
public import Idealize.ShloMosaic.Lib.Affine

@[expose] public section

set_option maxRecDepth 16384

noncomputable section

namespace Cert.Encoder

open Idealize.ShloMosaic Idealize.ShloMosaic.TcCoe Idealize.SL.Sem

/-- A number whose absolute value tests below the word of `+∞` is finite. -/
theorem fin1_of (x : EReal) (h : Ideal.cmp .olt (max x (-x)) (Ideal.ofBits .f32 2139095040#32) = 1#1) : Fin1 x := by
  rw [word_top] at h
  have hb : decide (max x (-x) < ⊤) = true := by
    have : BitVec.ofBool (decide (max x (-x) < ⊤)) = 1#1 := h
    revert this
    cases decide (max x (-x) < ⊤) <;> decide
  have hlt := max_lt_iff.mp (of_decide_eq_true hb)
  refine ⟨hlt.1.ne, fun e => ?_⟩
  rw [e] at hlt
  exact absurd hlt.2 (by simp)

/-- Each entry of an array all of whose entries test finite is finite. -/
theorem finite_of {s : Shape} {t : Shape} (g : Fin t.rank → Fin s.rank) (hb : t.BroadcastsInDim s g) (x : FVec Ideal s .f32)
    (e : cmpf .olt (Host.absf x) (broadcastInDim s g hb (constant t .f32 0x7F800000#32)) = fun _ => 1#1) (i : s.Idx) :
    Fin1 (x i) :=
  fin1_of (x i) (congrFun e i)

/-- Each entry of an array of words all of which test at least 0 and below `n` is at least 0 and below `n` as a signed number. -/
theorem range_of {s t : Shape} (g : Fin t.rank → Fin s.rank) (hb hb' : t.BroadcastsInDim s g) (x : IVec s 32) (n : BitVec 32)
    (e : andi (cmpi .sge x (broadcastInDim s g hb (constantI t 32 0#32))) (cmpi .slt x (broadcastInDim s g hb' (constantI t 32 n)))
      = fun _ => 1#1) (i : s.Idx) : 0 ≤ (x i).toInt ∧ (x i).toInt < n.toInt := by
  obtain ⟨h0, h1⟩ := IntOp.andi_eq_one.1 (congrFun e i : IntOp.andi (IntOp.cmpi .sge (x i) 0#32) (IntOp.cmpi .slt (x i) n) = 1#1)
  exact ⟨IntOp.cmpi_sge.1 h0, IntOp.cmpi_slt.1 h1⟩

theorem toNat_lt {a : BitVec 32} {n : ℕ} (h : 0 ≤ a.toInt ∧ a.toInt < (n : ℤ)) : a.toNat < n := by
  have := a.isLt
  obtain ⟨h0, h1⟩ := h
  rw [BitVec.toInt_eq_toNat_cond] at h0 h1
  split at h0 <;> simp_all <;> omega

variable (m : (ℓ : Loc Cert.KernelIdeal.nD Cert.KernelIdeal.τ Cert.KernelIdeal.sig) → Buf (Elt Ideal) ℓ)
  (c : Dev Cert.KernelIdeal.nD)

/-- The real numbers and indices behind the arguments a memory holds. -/
def numsAt : Nums :=
  numsOf (fun v => arg1 m c (ix1 v)) (fun v => arg2 m c (ix1 v)) (fun v => arg3 m c (ix1 v))
    (fun v j => arg4 m c (ix2 v j)) (fun v j => arg5 m c (ix2 v j)) (fun v j => arg6 m c (ix2 v j))
    (fun j k => arg7 m c (ix2 j k)) (fun k => arg8 m c (ix1 k)) (fun k => arg9 m c (ix1 k)) (fun k => arg10 m c (ix1 k))
    (fun j k => arg11 m c (ix2 j k)) (fun k => arg12 m c (ix1 k))

/-- The real numbers behind the values a memory holds. -/
def valuesAt (b : Fin 4096) (v : Fin 100) : ℝ := EReal.toReal (arg0 m c (ix2 b v))

/-- **Under the precondition the arguments are the numbers behind them.** -/
theorem reads_of_pre (h : Pre_KernelIdeal_finite_and_in_range m) : KReads m c (numsAt m c) (valuesAt m c) := by
  obtain ⟨h0, h1, h2, h3, h4, h5, h6, h7, h8, h9, h10, h11, h12⟩ := h c
  exact reads_of _ _ _ _ _ _ _ _ _ _ _ _ _
    (fun b v => finite_of _ _ (arg0 m c) h0 (ix2 b v))
    (fun v => toNat_lt (range_of _ _ _ (arg1 m c) 100#32 h1 (ix1 v)))
    (fun v => toNat_lt (range_of _ _ _ (arg2 m c) 8#32 h2 (ix1 v)))
    (fun v => toNat_lt (range_of _ _ _ (arg3 m c) 8#32 h3 (ix1 v)))
    (fun v j => finite_of _ _ (arg4 m c) h4 (ix2 v j))
    (fun v j => finite_of _ _ (arg5 m c) h5 (ix2 v j))
    (fun v j => finite_of _ _ (arg6 m c) h6 (ix2 v j))
    (fun v j => finite_of _ _ (arg7 m c) h7 (ix2 v j))
    (fun k => finite_of _ _ (arg8 m c) h8 (ix1 k))
    (fun k => finite_of _ _ (arg9 m c) h9 (ix1 k))
    (fun k => finite_of _ _ (arg10 m c) h10 (ix1 k))
    (fun v j => finite_of _ _ (arg11 m c) h11 (ix2 v j))
    (fun k => finite_of _ _ (arg12 m c) h12 (ix1 k))

end Cert.Encoder

end
-- ==== Proof.Encoder.Gather.lean ====
/-
The row of a table a gather takes, and the reference's three gathers at indices in range: the row the index names. The
reference wraps a negative index, clamps the gather's and fills a row whose index is out of range; in range none of it
changes anything.
-/
module

public import proofs.«01_k».proof.Proof.Gen.ReferenceIdeal.Read
public import proofs.«01_k».proof.Proof.Encoder.Reads
public import Idealize.ShloMosaic.Lib.Pointwise
public import Idealize.ShloMosaic.Lib.ReduceAll

@[expose] public section

set_option maxRecDepth 16384

noncomputable section

namespace Cert.Encoder

open Idealize.ShloMosaic Idealize.ShloMosaic.TcCoe Idealize.ShloMosaic.StableHlo
open Cert.ReferenceIdeal Cert.ReferenceIdeal.Gen Cert.ReferenceIdeal.Read

/-- The dimension numbers of taking whole rows of a table of `N` rows and `C` columns at `R` row numbers. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- **The gather of rows at `(v, j)`**: column `j` of the row the `v`-th row number names, once that number is known to
be one of the table's. -/
theorem gather_row {α : Type} {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (v : Fin R) (j : Fin C) (n : Fin N)
    (hn : (idx (ix2 v 0)).toInt.toNat = n) :
    Host.gather (rowDims N C R wf) x idx (ix2 v j) = x (ix2 n j) := by
  unfold Host.gather
  congr 1
  funext a
  refine Fin.ext ?_
  show (rowDims N C R wf).start (ix2 v j) idx a + (rowDims N C R wf).batchCoord (ix2 v j) a
      + (rowDims N C R wf).offCoord (ix2 v j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  obtain rfl | rfl := h01
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R wf).startIndexMap from List.mem_singleton.mpr rfl)]
    have hsi : (rowDims N C R wf).siIdx (ix2 v j) ⟨List.idxOf (0 : Fin 2) (rowDims N C R wf).startIndexMap,
        List.idxOf_lt_length_iff.2 (List.mem_singleton.mpr rfl)⟩ = ix2 v 0 := by
      funext b; refine Fin.ext ?_
      match b with
      | ⟨0, _⟩ => rfl
      | ⟨1, _⟩ => rfl
    show min (idx ((rowDims N C R wf).siIdx (ix2 v j) ⟨List.idxOf (0 : Fin 2) (rowDims N C R wf).startIndexMap, _⟩)).toInt.toNat
      (N - 1) = n.val
    rw [hsi, hn]
    have := n.isLt
    omega
  · have hs : (rowDims N C R wf).start (ix2 v j) idx (1 : Fin 2) = 0 := by
      unfold GatherDims.start
      rw [dif_neg (by simp [rowDims])]
    rw [hs, Nat.zero_add]
    rfl

theorem word100 : ∀ n : Fin 100, IntOp.cmpi .slt (BitVec.ofNat 32 n) 0#32 = 0#1 ∧ IntOp.cmpi .sge (BitVec.ofNat 32 n) 0#32 = 1#1
    ∧ IntOp.cmpi .sle (BitVec.ofNat 32 n) 99#32 = 1#1 ∧ (BitVec.ofNat 32 n).toInt.toNat = n := by decide

theorem word8 : ∀ n : Fin 8, IntOp.cmpi .slt (BitVec.ofNat 32 n) 0#32 = 0#1 ∧ IntOp.cmpi .sge (BitVec.ofNat 32 n) 0#32 = 1#1
    ∧ IntOp.cmpi .sle (BitVec.ofNat 32 n) 7#32 = 1#1 ∧ (BitVec.ofNat 32 n).toInt.toNat = n := by decide

section names
variable (x1 : (⟨S100, .i32⟩ : BufTy).Contents (Elt Ideal)) (x4 : (⟨S100x32, .f32⟩ : BufTy).Contents (Elt Ideal))
variable {n : Fin 100 → Fin 100} (hn : ∀ v, x1 (ix1 v) = BitVec.ofNat 32 (n v))
include hn

/-- The name index the gather reads is the argument's. -/
theorem name_idx (v : Fin 100) (z : Fin 1) : val_main_call0_v5 (F := Ideal) x1 (ix2 v z) = BitVec.ofNat 32 (n v) := by
  have e : val_main_call0_v5 (F := Ideal) x1 (ix2 v z) = Scalar.select (IntOp.cmpi .slt (x1 (ix1 v)) 0#32) (IntOp.addi (x1 (ix1 v)) 100#32) (x1 (ix1 v)) := by
    unfold val_main_call0_v5 val_main_call0_v4 val_main_call0_v3 val_main_call0_v1 val_main_call0_v0 val_main_call0_v2 val_main_call0_c val_main_call0_c_0
    pointwise []
  rw [e, hn, (word100 _).1]; rfl

/-- Every name index is in range. -/
theorem name_ok (i : S100.Idx) : val_main_call0_v12 (F := Ideal) x1 i = 1#1 := by
  unfold val_main_call0_v12
  refine Host.reduce_andi_one _ _ _ _ _ rfl fun j => ?_
  obtain ⟨v, z, rfl⟩ : ∃ (v : Fin 100) (z : Fin 1), j = ix2 v z := ⟨j 0, j 1, eq_ix2 j⟩
  have e : val_main_call0_v11 (F := Ideal) x1 (ix2 v z) = IntOp.andi (IntOp.cmpi .sge (val_main_call0_v5 (F := Ideal) x1 (ix2 v z)) 0#32) (IntOp.cmpi .sle (val_main_call0_v5 (F := Ideal) x1 (ix2 v z)) 99#32) := by
    unfold val_main_call0_v11 val_main_call0_v7 val_main_call0_v10 val_main_call0_v9 val_main_call0_v8 val_main_call0_v6 val_main_call0_c_1 val_main_call0_c_2
    generalize val_main_call0_v5 (F := Ideal) x1 = y
    pointwise []
  rw [e, name_idx x1 hn, (word100 _).2.1, (word100 _).2.2.1]; rfl

/-- **The name rows**: row `v` of the reference's gather is the table's row `n v`. -/
theorem name_row (v : Fin 100) (j : Fin 32) : val_main_v1 (F := Ideal) x1 x4 (ix2 v j) = x4 (ix2 (n v) j) := by
  rw [val_main_v1_apply, val_main_call0_v14_apply, name_ok x1 hn]
  exact gather_row _ x4 _ v j (n v) (by rw [name_idx x1 hn]; exact (word100 _).2.2.2)

end names

section roles
variable (x2 : (⟨S100, .i32⟩ : BufTy).Contents (Elt Ideal)) (x5 : (⟨S8x16, .f32⟩ : BufTy).Contents (Elt Ideal))
variable {n : Fin 100 → Fin 8} (hn : ∀ v, x2 (ix1 v) = BitVec.ofNat 32 (n v))
include hn

/-- The role index the gather reads is the argument's. -/
theorem role_idx (v : Fin 100) (z : Fin 1) : val_main_call1_v5 (F := Ideal) x2 (ix2 v z) = BitVec.ofNat 32 (n v) := by
  have e : val_main_call1_v5 (F := Ideal) x2 (ix2 v z) = Scalar.select (IntOp.cmpi .slt (x2 (ix1 v)) 0#32) (IntOp.addi (x2 (ix1 v)) 8#32) (x2 (ix1 v)) := by
    unfold val_main_call1_v5 val_main_call1_v4 val_main_call1_v3 val_main_call1_v1 val_main_call1_v0 val_main_call1_v2 val_main_call1_c val_main_call1_c_0
    pointwise []
  rw [e, hn, (word8 _).1]; rfl

/-- Every role index is in range. -/
theorem role_ok (i : S100.Idx) : val_main_call1_v12 (F := Ideal) x2 i = 1#1 := by
  unfold val_main_call1_v12
  refine Host.reduce_andi_one _ _ _ _ _ rfl fun j => ?_
  obtain ⟨v, z, rfl⟩ : ∃ (v : Fin 100) (z : Fin 1), j = ix2 v z := ⟨j 0, j 1, eq_ix2 j⟩
  have e : val_main_call1_v11 (F := Ideal) x2 (ix2 v z) = IntOp.andi (IntOp.cmpi .sge (val_main_call1_v5 (F := Ideal) x2 (ix2 v z)) 0#32) (IntOp.cmpi .sle (val_main_call1_v5 (F := Ideal) x2 (ix2 v z)) 7#32) := by
    unfold val_main_call1_v11 val_main_call1_v7 val_main_call1_v10 val_main_call1_v9 val_main_call1_v8 val_main_call1_v6 val_main_call1_c_1 val_main_call1_c_2
    generalize val_main_call1_v5 (F := Ideal) x2 = y
    pointwise []
  rw [e, role_idx x2 hn, (word8 _).2.1, (word8 _).2.2.1]; rfl

/-- **The role rows**: row `v` of the reference's gather is the table's row `n v`. -/
theorem role_row (v : Fin 100) (j : Fin 16) : val_main_v2 (F := Ideal) x2 x5 (ix2 v j) = x5 (ix2 (n v) j) := by
  rw [val_main_v2_apply, val_main_call1_v14_apply, role_ok x2 hn]
  exact gather_row _ x5 _ v j (n v) (by rw [role_idx x2 hn]; exact (word8 _).2.2.2)

end roles

section groups
variable (x3 : (⟨S100, .i32⟩ : BufTy).Contents (Elt Ideal)) (x6 : (⟨S8x16, .f32⟩ : BufTy).Contents (Elt Ideal))
variable {n : Fin 100 → Fin 8} (hn : ∀ v, x3 (ix1 v) = BitVec.ofNat 32 (n v))
include hn

/-- The group index the gather reads is the argument's. -/
theorem group_idx (v : Fin 100) (z : Fin 1) : val_main_call2_v5 (F := Ideal) x3 (ix2 v z) = BitVec.ofNat 32 (n v) := by
  have e : val_main_call2_v5 (F := Ideal) x3 (ix2 v z) = Scalar.select (IntOp.cmpi .slt (x3 (ix1 v)) 0#32) (IntOp.addi (x3 (ix1 v)) 8#32) (x3 (ix1 v)) := by
    unfold val_main_call2_v5 val_main_call2_v4 val_main_call2_v3 val_main_call2_v1 val_main_call2_v0 val_main_call2_v2 val_main_call2_c val_main_call2_c_0
    pointwise []
  rw [e, hn, (word8 _).1]; rfl

/-- Every group index is in range. -/
theorem group_ok (i : S100.Idx) : val_main_call2_v12 (F := Ideal) x3 i = 1#1 := by
  unfold val_main_call2_v12
  refine Host.reduce_andi_one _ _ _ _ _ rfl fun j => ?_
  obtain ⟨v, z, rfl⟩ : ∃ (v : Fin 100) (z : Fin 1), j = ix2 v z := ⟨j 0, j 1, eq_ix2 j⟩
  have e : val_main_call2_v11 (F := Ideal) x3 (ix2 v z) = IntOp.andi (IntOp.cmpi .sge (val_main_call2_v5 (F := Ideal) x3 (ix2 v z)) 0#32) (IntOp.cmpi .sle (val_main_call2_v5 (F := Ideal) x3 (ix2 v z)) 7#32) := by
    unfold val_main_call2_v11 val_main_call2_v7 val_main_call2_v10 val_main_call2_v9 val_main_call2_v8 val_main_call2_v6 val_main_call2_c_1 val_main_call2_c_2
    generalize val_main_call2_v5 (F := Ideal) x3 = y
    pointwise []
  rw [e, group_idx x3 hn, (word8 _).2.1, (word8 _).2.2.1]; rfl

/-- **The group rows**: row `v` of the reference's gather is the table's row `n v`. -/
theorem group_row (v : Fin 100) (j : Fin 16) : val_main_v3 (F := Ideal) x3 x6 (ix2 v j) = x6 (ix2 (n v) j) := by
  rw [val_main_v3_apply, val_main_call2_v14_apply, group_ok x3 hn]
  exact gather_row _ x6 _ v j (n v) (by rw [group_idx x3 hn]; exact (word8 _).2.2.2)

end groups

end Cert.Encoder

end
-- ==== Proof.Encoder.Tokens.lean ====
/-
The reference's first layer: a variable's 65 numbers (its value, its name's 32, its role's 16, its group's 16) times the
first weight, plus the first shift.
-/
module

public import proofs.«01_k».proof.Proof.Encoder.Gather

@[expose] public section

set_option maxRecDepth 16384

noncomputable section

namespace Cert.Encoder

open Idealize.ShloMosaic Idealize.ShloMosaic.TcCoe Idealize.ShloMosaic.StableHlo
open Cert.ReferenceIdeal Cert.ReferenceIdeal.Gen Cert.ReferenceIdeal.Read
open scoped BigOperators

/-- A sum of 65 terms in its four runs: the first, the next 32, the next 16, the last 16. -/
theorem sum_65 (f : Fin 65 → EReal) :
    ∑ k, f k = f 0 + ∑ j : Fin 32, f ⟨1 + j, by omega⟩ + ∑ j : Fin 16, f ⟨33 + j, by omega⟩
      + ∑ j : Fin 16, f ⟨49 + j, by omega⟩ := by
  have h3 := Fin.sum_univ_add (a := 49) (b := 16) f
  have h2 := Fin.sum_univ_add (a := 33) (b := 16) fun i => f (Fin.castAdd 16 i)
  have h1 := Fin.sum_univ_add (a := 1) (b := 32) fun i => f (Fin.castAdd 16 (Fin.castAdd 16 i))
  rw [Fin.sum_univ_one] at h1
  rw [h1] at h2
  rw [h2] at h3
  exact h3

variable (x0 : (⟨S4096x100, .f32⟩ : BufTy).Contents (Elt Ideal)) (x1 x2 x3 : (⟨S100, .i32⟩ : BufTy).Contents (Elt Ideal))
  (x4 : (⟨S100x32, .f32⟩ : BufTy).Contents (Elt Ideal)) (x5 x6 : (⟨S8x16, .f32⟩ : BufTy).Contents (Elt Ideal))
  (x7 : (⟨S65x128, .f32⟩ : BufTy).Contents (Elt Ideal)) (x8 x9 x10 : (⟨S128, .f32⟩ : BufTy).Contents (Elt Ideal))
  (x11 : (⟨S128x128, .f32⟩ : BufTy).Contents (Elt Ideal)) (x12 : (⟨S128, .f32⟩ : BufTy).Contents (Elt Ideal))

/-- The token's first number is the value. -/
theorem token_value (b : Fin 4096) (v : Fin 100) :
    val_main_v10 (F := Ideal) x0 x1 x2 x3 x4 x5 x6 (ix3 b v 0) = x0 (ix2 b v) := by
  have e : val_main_v0 (F := Ideal) x0 (ix3 b v 0) = x0 (ix2 b v) := by
    unfold val_main_v0
    pointwise []
  rw [← e]
  unfold val_main_v10
  generalize val_main_v0 (F := Ideal) x0 = y0, val_main_v5 (F := Ideal) x1 x4 = y1, val_main_v7 (F := Ideal) x2 x5 = y2,
    val_main_v9 (F := Ideal) x3 x6 = y3
  refine concatenate_apply_piece (2 : Fin S4096x100x65.rank)
    [⟨S4096x100x1, y0⟩, ⟨S4096x100x32, y1⟩, ⟨S4096x100x16, y2⟩, ⟨S4096x100x16, y3⟩] _ _ 0 (by simp) S4096x100x1 y0 rfl rfl 0 rfl
    (ix3 b v 0) (fun a ha => ?_) rfl
  match a with
  | ⟨0, _⟩ => rfl
  | ⟨1, _⟩ => rfl
  | ⟨2, _⟩ => exact absurd rfl ha

/-- The next 32 are the name's row. -/
theorem token_name (b : Fin 4096) (v : Fin 100) (j : Fin 32) :
    val_main_v10 (F := Ideal) x0 x1 x2 x3 x4 x5 x6 (ix3 b v ⟨1 + j, by omega⟩) = val_main_v1 (F := Ideal) x1 x4 (ix2 v j) := by
  have e : val_main_v5 (F := Ideal) x1 x4 (ix3 b v j) = val_main_v1 (F := Ideal) x1 x4 (ix2 v j) := by
    unfold val_main_v5 val_main_v4
    generalize val_main_v1 (F := Ideal) x1 x4 = y
    pointwise []
  rw [← e]
  unfold val_main_v10
  generalize val_main_v0 (F := Ideal) x0 = y0, val_main_v5 (F := Ideal) x1 x4 = y1, val_main_v7 (F := Ideal) x2 x5 = y2,
    val_main_v9 (F := Ideal) x3 x6 = y3
  refine concatenate_apply_piece (2 : Fin S4096x100x65.rank)
    [⟨S4096x100x1, y0⟩, ⟨S4096x100x32, y1⟩, ⟨S4096x100x16, y2⟩, ⟨S4096x100x16, y3⟩] _ _ 1 (by simp) S4096x100x32 y1 rfl rfl 1 rfl
    (ix3 b v j) (fun a ha => ?_) rfl
  match a with
  | ⟨0, _⟩ => rfl
  | ⟨1, _⟩ => rfl
  | ⟨2, _⟩ => exact absurd rfl ha

/-- The next 16 are the role's row. -/
theorem token_role (b : Fin 4096) (v : Fin 100) (j : Fin 16) :
    val_main_v10 (F := Ideal) x0 x1 x2 x3 x4 x5 x6 (ix3 b v ⟨33 + j, by omega⟩) = val_main_v2 (F := Ideal) x2 x5 (ix2 v j) := by
  have e : val_main_v7 (F := Ideal) x2 x5 (ix3 b v j) = val_main_v2 (F := Ideal) x2 x5 (ix2 v j) := by
    unfold val_main_v7 val_main_v6
    generalize val_main_v2 (F := Ideal) x2 x5 = y
    pointwise []
  rw [← e]
  unfold val_main_v10
  generalize val_main_v0 (F := Ideal) x0 = y0, val_main_v5 (F := Ideal) x1 x4 = y1, val_main_v7 (F := Ideal) x2 x5 = y2,
    val_main_v9 (F := Ideal) x3 x6 = y3
  refine concatenate_apply_piece (2 : Fin S4096x100x65.rank)
    [⟨S4096x100x1, y0⟩, ⟨S4096x100x32, y1⟩, ⟨S4096x100x16, y2⟩, ⟨S4096x100x16, y3⟩] _ _ 2 (by simp) S4096x100x16 y2 rfl rfl 33 rfl
    (ix3 b v j) (fun a ha => ?_) rfl
  match a with
  | ⟨0, _⟩ => rfl
  | ⟨1, _⟩ => rfl
  | ⟨2, _⟩ => exact absurd rfl ha

/-- The last 16 are the group's row. -/
theorem token_group (b : Fin 4096) (v : Fin 100) (j : Fin 16) :
    val_main_v10 (F := Ideal) x0 x1 x2 x3 x4 x5 x6 (ix3 b v ⟨49 + j, by omega⟩) = val_main_v3 (F := Ideal) x3 x6 (ix2 v j) := by
  have e : val_main_v9 (F := Ideal) x3 x6 (ix3 b v j) = val_main_v3 (F := Ideal) x3 x6 (ix2 v j) := by
    unfold val_main_v9 val_main_v8
    generalize val_main_v3 (F := Ideal) x3 x6 = y
    pointwise []
  rw [← e]
  unfold val_main_v10
  generalize val_main_v0 (F := Ideal) x0 = y0, val_main_v5 (F := Ideal) x1 x4 = y1, val_main_v7 (F := Ideal) x2 x5 = y2,
    val_main_v9 (F := Ideal) x3 x6 = y3
  refine concatenate_apply_piece (2 : Fin S4096x100x65.rank)
    [⟨S4096x100x1, y0⟩, ⟨S4096x100x32, y1⟩, ⟨S4096x100x16, y2⟩, ⟨S4096x100x16, y3⟩] _ _ 3 (by simp) S4096x100x16 y3 rfl rfl 49 rfl
    (ix3 b v j) (fun a ha => ?_) rfl
  match a with
  | ⟨0, _⟩ => rfl
  | ⟨1, _⟩ => rfl
  | ⟨2, _⟩ => exact absurd rfl ha

/-- The reference's thirteen arguments, entry by entry, are the real numbers and indices of `d` and `x`. -/
abbrev RReads (d : Nums) (x : Fin 4096 → Fin 100 → ℝ) : Prop :=
  Reads (fun b v => x0 (ix2 b v)) (fun v => x1 (ix1 v)) (fun v => x2 (ix1 v)) (fun v => x3 (ix1 v)) (fun v j => x4 (ix2 v j))
    (fun v j => x5 (ix2 v j)) (fun v j => x6 (ix2 v j)) (fun j k => x7 (ix2 j k)) (fun k => x8 (ix1 k)) (fun k => x9 (ix1 k))
    (fun k => x10 (ix1 k)) (fun j k => x11 (ix2 j k)) (fun k => x12 (ix1 k)) d x

variable {x0 x1 x2 x3 x4 x5 x6 x7 x8 x9 x10 x11 x12} {d : Nums} {x : Fin 4096 → Fin 100 → ℝ}

/-- **The reference's first layer**, as a real number: the value times the weight's first row, plus what the variable alone
decides. -/
theorem first (h : RReads x0 x1 x2 x3 x4 x5 x6 x7 x8 x9 x10 x11 x12 d x) (b : Fin 4096) (v : Fin 100) (k : Fin 128) :
    val_main_v14 (F := Ideal) x0 x1 x2 x3 x4 x5 x6 x7 x8 (ix3 b v k) = ((x b v * d.w k + d.base v k : ℝ) : EReal) := by
  have e : val_main_v14 (F := Ideal) x0 x1 x2 x3 x4 x5 x6 x7 x8 (ix3 b v k)
      = ∑ j : Fin 65, val_main_v10 (F := Ideal) x0 x1 x2 x3 x4 x5 x6 (ix3 b v j) * x7 (ix2 j k) + x8 (ix1 k) := by
    unfold val_main_v14 val_main_v13 val_main_v12 val_main_v11
    generalize val_main_v10 (F := Ideal) x0 x1 x2 x3 x4 x5 x6 = y
    pointwise []
  rw [e, sum_65]
  simp only [token_value, token_name, token_role, token_group, name_row x1 x4 h.n, role_row x2 x5 h.p, group_row x3 x6 h.q]
  rw [h.x b v, h.w k, h.b1 k]
  simp only [h.A, h.B, h.C, h.T, h.U, h.V]
  simp only [← EReal.coe_mul, ← coe_sum, ← EReal.coe_add]
  congr 1
  unfold Nums.base
  simp only [mul_comm]
  ring

end Cert.Encoder

end
-- ==== Proof.Encoder.RefNorm.lean ====
/-
The reference's normalisation of rows of 128: the mean, the variance (which the reference would replace were its count not
positive: it is 128), and each entry less the mean over the root of the variance plus a constant. Both layers run it.
-/
module

public import proofs.«01_k».proof.Proof.Encoder.Tokens

@[expose] public section

set_option maxRecDepth 16384

noncomputable section

namespace Cert.Encoder

open Idealize.ShloMosaic Idealize.ShloMosaic.TcCoe Idealize.ShloMosaic.StableHlo
open Cert.ReferenceIdeal Cert.ReferenceIdeal.Gen Cert.ReferenceIdeal.Read
open scoped BigOperators

/-- Each row's sum divided by 128. -/
def rowMean (X : FVec Ideal S4096x100x128 .f32) : FVec Ideal S4096x100x1 .f32 :=
  Host.divf
    (broadcastInDim S4096x100x1 ![0, 1] bcast_S4096x100_S4096x100x1_0_1
      (Host.reduceAdd X (constant S_ .f32 0x00000000#32) reducesTo_S4096x100x128_S4096x100_d2 h_S_))
    (broadcastInDim S4096x100x1 ![] bcast_S_S4096x100x1 (constant S_ .f32 0x43000000#32))

/-- Each entry less its row's mean. -/
def centred (X : FVec Ideal S4096x100x128 .f32) : FVec Ideal S4096x100x128 .f32 :=
  subf X (broadcastInDim S4096x100x128 ![0, 1, 2] bcast_S4096x100x1_S4096x100x128_0_1_2 (rowMean X))

/-- The count a row's squares are divided by: 128 less the converted zero. -/
def count : FVec Ideal S_ .f32 := subf (constant S_ .f32 0x43000000#32) (sitofp .f32 (constantI S_ 32 0#32))

/-- Each row's variance, where the count is positive. -/
def rowVar (X : FVec Ideal S4096x100x128 .f32) : FVec Ideal S4096x100x1 .f32 :=
  select (broadcastInDim S4096x100x1 ![] bcast_S_S4096x100x1 (cmpf .ogt count (constant S_ .f32 0x00000000#32)))
    (Host.divf
      (broadcastInDim S4096x100x1 ![0, 1] bcast_S4096x100_S4096x100x1_0_1
        (Host.reduceAdd (mulf (centred X) (centred X)) (constant S_ .f32 0x00000000#32) reducesTo_S4096x100x128_S4096x100_d2 h_S_))
      (broadcastInDim S4096x100x1 ![] bcast_S_S4096x100x1 count))
    (broadcastInDim S4096x100x1 ![] bcast_S_S4096x100x1 (id (constant S_ .f32 0x7FC00000#32)))

/-- The normalised rows. -/
def normed (X : FVec Ideal S4096x100x128 .f32) : FVec Ideal S4096x100x128 .f32 :=
  Host.divf (centred X)
    (broadcastInDim S4096x100x128 ![0, 1, 2] bcast_S4096x100x1_S4096x100x128_0_1_2
      (Host.sqrt (addf (rowVar X) (broadcastInDim S4096x100x1 ![] bcast_S_S4096x100x1 (constant S_ .f32 0x3727C5AC#32)))))

/-- The count is 128. -/
theorem count_apply (i : S_.Idx) : count i = ((128 : ℝ) : EReal) := by
  have e : count i = Ideal.ofBits .f32 1124073472#32 - (((0#32).toInt : ℝ) : EReal) := rfl
  rw [e, word_128, ← EReal.coe_sub]
  norm_num

variable {X : FVec Ideal S4096x100x128 .f32} {b : Fin 4096} {v : Fin 100} {f : Fin 128 → ℝ}

/-- The mean of a row of real numbers. -/
theorem rowMean_apply (h : ∀ k, X (ix3 b v k) = (f k : EReal)) (z : Fin 1) : rowMean X (ix3 b v z) = ((mean f : ℝ) : EReal) := by
  unfold rowMean
  pointwise []
  simp only [h, word_128, ← coe_sum, div_128]
  rfl

/-- A row of real numbers less its mean. -/
theorem centred_apply (h : ∀ k, X (ix3 b v k) = (f k : EReal)) (k : Fin 128) :
    centred X (ix3 b v k) = ((f k - mean f : ℝ) : EReal) := by
  have m := rowMean_apply h
  unfold centred
  generalize rowMean X = M at m ⊢
  pointwise []
  simp only [h, m, ← EReal.coe_sub]

/-- The variance of a row of real numbers. -/
theorem rowVar_apply (h : ∀ k, X (ix3 b v k) = (f k : EReal)) (z : Fin 1) : rowVar X (ix3 b v z) = ((var f : ℝ) : EReal) := by
  have c := centred_apply h
  have n := count_apply
  unfold rowVar
  generalize centred X = D at c ⊢
  generalize count = N at n ⊢
  pointwise []
  simp only [c, n, ← EReal.coe_mul, ← coe_sum, div_128]
  rw [if_pos (EReal.coe_pos.mpr (by norm_num : (0 : ℝ) < 128))]
  rfl

/-- **The reference's normalised row.** -/
theorem normed_apply (h : ∀ k, X (ix3 b v k) = (f k : EReal)) (k : Fin 128) : normed X (ix3 b v k) = ((rN f k : ℝ) : EReal) := by
  have c := centred_apply h
  have w := rowVar_apply h
  unfold normed
  generalize centred X = D at c ⊢
  generalize rowVar X = W at w ⊢
  pointwise []
  simp only [c, w, word_eps, ← EReal.coe_add, sqrt_pos (var_eps_pos f), div_sqrt _ (var_eps_pos f)]
  rfl

end Cert.Encoder

end
-- ==== Proof.Encoder.RefValue.lean ====
/-
What the reference computes: the last layer over the second normalised row, as a function of the arguments' real numbers.
-/
module

public import proofs.«01_k».proof.Proof.Encoder.RefNorm

@[expose] public section

set_option maxRecDepth 16384

noncomputable section

namespace Cert.Encoder

open Idealize.ShloMosaic Idealize.ShloMosaic.TcCoe Idealize.ShloMosaic.StableHlo
open Cert.ReferenceIdeal Cert.ReferenceIdeal.Gen Cert.ReferenceIdeal.Read
open scoped BigOperators

variable {x0 : (⟨S4096x100, .f32⟩ : BufTy).Contents (Elt Ideal)} {x1 x2 x3 : (⟨S100, .i32⟩ : BufTy).Contents (Elt Ideal)}
  {x4 : (⟨S100x32, .f32⟩ : BufTy).Contents (Elt Ideal)} {x5 x6 : (⟨S8x16, .f32⟩ : BufTy).Contents (Elt Ideal)}
  {x7 : (⟨S65x128, .f32⟩ : BufTy).Contents (Elt Ideal)} {x8 x9 x10 : (⟨S128, .f32⟩ : BufTy).Contents (Elt Ideal)}
  {x11 : (⟨S128x128, .f32⟩ : BufTy).Contents (Elt Ideal)} {x12 : (⟨S128, .f32⟩ : BufTy).Contents (Elt Ideal)}
  {d : Nums} {x : Fin 4096 → Fin 100 → ℝ}

/-- The first layer's normalised rows are its rows normalised. -/
theorem normed_first : val_main_v26 (F := Ideal) x0 x1 x2 x3 x4 x5 x6 x7 x8 = normed (val_main_v14 (F := Ideal) x0 x1 x2 x3 x4 x5 x6 x7 x8) := rfl

/-- The second layer's normalised rows are its rows normalised. -/
theorem normed_second : val_main_v49 (F := Ideal) x0 x1 x2 x3 x4 x5 x6 x7 x8 x9 x10 x11 x12
    = normed (val_main_v37 (F := Ideal) x0 x1 x2 x3 x4 x5 x6 x7 x8 x9 x10 x11 x12) := rfl

/-- The first layer's activation. -/
theorem activation (h : RReads x0 x1 x2 x3 x4 x5 x6 x7 x8 x9 x10 x11 x12 d x) (b : Fin 4096) (v : Fin 100) (k : Fin 128) :
    val_main_v33 (F := Ideal) x0 x1 x2 x3 x4 x5 x6 x7 x8 x9 x10 (ix3 b v k)
      = ((rY (fun k => x b v * d.w k + d.base v k) d.g1 d.e1 k : ℝ) : EReal) := by
  have n := normed_apply (first h b v) k
  rw [← normed_first] at n
  have e : val_main_v33 (F := Ideal) x0 x1 x2 x3 x4 x5 x6 x7 x8 x9 x10 (ix3 b v k)
      = max (val_main_v26 (F := Ideal) x0 x1 x2 x3 x4 x5 x6 x7 x8 (ix3 b v k) * x9 (ix1 k) + x10 (ix1 k)) 0 := by
    unfold val_main_v33 val_main_v32 val_main_v31 val_main_v30 val_main_v29 val_main_v28 val_main_v27 val_main_call4_v0 val_main_call4_cst
    generalize val_main_v26 (F := Ideal) x0 x1 x2 x3 x4 x5 x6 x7 x8 = y
    pointwise []
  rw [e, n, h.g1 k, h.e1 k, ← EReal.coe_mul, ← EReal.coe_add, max_zero]
  rfl

/-- The second layer before its normalisation. -/
theorem second (h : RReads x0 x1 x2 x3 x4 x5 x6 x7 x8 x9 x10 x11 x12 d x) (b : Fin 4096) (v : Fin 100) (k : Fin 128) :
    val_main_v37 (F := Ideal) x0 x1 x2 x3 x4 x5 x6 x7 x8 x9 x10 x11 x12 (ix3 b v k)
      = ((rZ (rY (fun k => x b v * d.w k + d.base v k) d.g1 d.e1) (fun j k => d.W2 j k) d.b2 k : ℝ) : EReal) := by
  have a := activation h b v
  have e : val_main_v37 (F := Ideal) x0 x1 x2 x3 x4 x5 x6 x7 x8 x9 x10 x11 x12 (ix3 b v k)
      = ∑ j : Fin 128, val_main_v33 (F := Ideal) x0 x1 x2 x3 x4 x5 x6 x7 x8 x9 x10 (ix3 b v j) * x11 (ix2 j k) + x12 (ix1 k) := by
    unfold val_main_v37 val_main_v36 val_main_v35 val_main_v34
    generalize val_main_v33 (F := Ideal) x0 x1 x2 x3 x4 x5 x6 x7 x8 x9 x10 = y
    pointwise []
  rw [e, h.b2 k]
  simp only [a, h.W2, ← EReal.coe_mul, ← coe_sum, ← EReal.coe_add]
  rfl

/-- **The reference's result at row `b`, variable `v`, output `o`**: the last layer over the second normalised row. -/
theorem ref_eq (h : RReads x0 x1 x2 x3 x4 x5 x6 x7 x8 x9 x10 x11 x12 d x)
    (x13 x14 : (⟨S128, .f32⟩ : BufTy).Contents (Elt Ideal)) (x15 : (⟨S128x64, .f32⟩ : BufTy).Contents (Elt Ideal))
    (x16 : (⟨S64, .f32⟩ : BufTy).Contents (Elt Ideal)) (b : Fin 4096) (v : Fin 100) (o : Fin 64) :
    val_main_v60 (F := Ideal) x0 x1 x2 x3 x4 x5 x6 x7 x8 x9 x10 x11 x12 x13 x14 x15 x16 (ix3 b v o)
      = lastLayer (d.rRow (x b v) v) (fun k => x13 (ix1 k)) (fun k => x14 (ix1 k)) (fun k o => x15 (ix2 k o))
          (fun o => x16 (ix1 o)) o := by
  have n := normed_apply (second h b v)
  rw [← normed_second] at n
  have e : val_main_v60 (F := Ideal) x0 x1 x2 x3 x4 x5 x6 x7 x8 x9 x10 x11 x12 x13 x14 x15 x16 (ix3 b v o)
      = ∑ k : Fin 128, max (val_main_v49 (F := Ideal) x0 x1 x2 x3 x4 x5 x6 x7 x8 x9 x10 x11 x12 (ix3 b v k) * x13 (ix1 k)
          + x14 (ix1 k)) 0 * x15 (ix2 k o) + x16 (ix1 o) := by
    unfold val_main_v60 val_main_v59 val_main_v58 val_main_v57 val_main_v56 val_main_v55 val_main_v54 val_main_v53 val_main_v52 val_main_v51 val_main_v50 val_main_call6_v0 val_main_call6_cst
    generalize val_main_v49 (F := Ideal) x0 x1 x2 x3 x4 x5 x6 x7 x8 x9 x10 x11 x12 = y
    pointwise []
  rw [e]
  simp only [n]
  rfl

end Cert.Encoder

end
-- ==== Proof.Encoder.Equal.lean ====
/-
The equation: under the precondition the kernel's array is the reference's function of the same arguments.
-/
module

public import proofs.«01_k».proof.Proof.Encoder.Pre
public import proofs.«01_k».proof.Proof.Encoder.RefValue

@[expose] public section

set_option maxRecDepth 16384

noncomputable section

namespace Cert.Encoder

open Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- **The kernel's array is the reference's result on the same arguments.** -/
theorem result_eq (h : Pre_KernelIdeal_finite_and_in_range m) :
    ((Cert.KernelIdeal.Gen.dats m 0 c).arrAt 21 Cert.KernelIdeal.cfg0.N : Vec Ideal Cert.KernelIdeal.S4096x100x64 .f32)
      = Cert.ReferenceIdeal.Read.val_main_v60 (F := Ideal) (arg0 m c) (arg1 m c) (arg2 m c) (arg3 m c) (arg4 m c) (arg5 m c)
          (arg6 m c) (arg7 m c) (arg8 m c) (arg9 m c) (arg10 m c) (arg11 m c) (arg12 m c) (arg13 m c) (arg14 m c) (arg15 m c)
          (arg16 m c) := by
  have hr := reads_of_pre m c h
  funext i
  obtain ⟨b, v, o, rfl⟩ : ∃ (b : Fin 4096) (v : Fin 100) (o : Fin 64), i = ix3 b v o := ⟨i 0, i 1, i 2, eq_ix3 i⟩
  rw [array_eq hr b v o, Nums.row_eq]
  exact (ref_eq hr _ _ _ _ b v o).symm

/-- The same, of any arrays equal to the kernel's arguments: the reference's result on them is the kernel's array. -/
theorem ref_result (h : Pre_KernelIdeal_finite_and_in_range m)
    {x0 : (⟨Cert.ReferenceIdeal.S4096x100, .f32⟩ : BufTy).Contents (Elt Ideal)} (e0 : x0 = arg0 m c)
    {x1 : (⟨Cert.ReferenceIdeal.S100, .i32⟩ : BufTy).Contents (Elt Ideal)} (e1 : x1 = arg1 m c)
    {x2 : (⟨Cert.ReferenceIdeal.S100, .i32⟩ : BufTy).Contents (Elt Ideal)} (e2 : x2 = arg2 m c)
    {x3 : (⟨Cert.ReferenceIdeal.S100, .i32⟩ : BufTy).Contents (Elt Ideal)} (e3 : x3 = arg3 m c)
    {x4 : (⟨Cert.ReferenceIdeal.S100x32, .f32⟩ : BufTy).Contents (Elt Ideal)} (e4 : x4 = arg4 m c)
    {x5 : (⟨Cert.ReferenceIdeal.S8x16, .f32⟩ : BufTy).Contents (Elt Ideal)} (e5 : x5 = arg5 m c)
    {x6 : (⟨Cert.ReferenceIdeal.S8x16, .f32⟩ : BufTy).Contents (Elt Ideal)} (e6 : x6 = arg6 m c)
    {x7 : (⟨Cert.ReferenceIdeal.S65x128, .f32⟩ : BufTy).Contents (Elt Ideal)} (e7 : x7 = arg7 m c)
    {x8 : (⟨Cert.ReferenceIdeal.S128, .f32⟩ : BufTy).Contents (Elt Ideal)} (e8 : x8 = arg8 m c)
    {x9 : (⟨Cert.ReferenceIdeal.S128, .f32⟩ : BufTy).Contents (Elt Ideal)} (e9 : x9 = arg9 m c)
    {x10 : (⟨Cert.ReferenceIdeal.S128, .f32⟩ : BufTy).Contents (Elt Ideal)} (e10 : x10 = arg10 m c)
    {x11 : (⟨Cert.ReferenceIdeal.S128x128, .f32⟩ : BufTy).Contents (Elt Ideal)} (e11 : x11 = arg11 m c)
    {x12 : (⟨Cert.ReferenceIdeal.S128, .f32⟩ : BufTy).Contents (Elt Ideal)} (e12 : x12 = arg12 m c)
    {x13 : (⟨Cert.ReferenceIdeal.S128, .f32⟩ : BufTy).Contents (Elt Ideal)} (e13 : x13 = arg13 m c)
    {x14 : (⟨Cert.ReferenceIdeal.S128, .f32⟩ : BufTy).Contents (Elt Ideal)} (e14 : x14 = arg14 m c)
    {x15 : (⟨Cert.ReferenceIdeal.S128x64, .f32⟩ : BufTy).Contents (Elt Ideal)} (e15 : x15 = arg15 m c)
    {x16 : (⟨Cert.ReferenceIdeal.S64, .f32⟩ : BufTy).Contents (Elt Ideal)} (e16 : x16 = arg16 m c) :
    Cert.ReferenceIdeal.Read.val_main_v60 (F := Ideal) x0 x1 x2 x3 x4 x5 x6 x7 x8 x9 x10 x11 x12 x13 x14 x15 x16
      = (Cert.KernelIdeal.Gen.dats m 0 c).arrAt 21 Cert.KernelIdeal.cfg0.N := by
  rw [e0, e1, e2, e3, e4, e5, e6, e7, e8, e9, e10, e11, e12, e13, e14, e15, e16]
  exact (result_eq m c h).symm

end Cert.Encoder

end
-- ==== Proof.lean ====
/-
The proof of `Cert.Claim`: the kernel over floating-point words and over exact numbers runs to the end with its arguments
unchanged, as does the reference; the kernel over exact numbers is the kernel's own text; and where the precondition holds
the kernel and the reference end with equal results.
-/
module

public import proofs.«01_k».proof.Defs
public import proofs.«01_k».proof.Proof.KernelBits.Frame
public import proofs.«01_k».proof.Proof.KernelRun.Blocks
public import proofs.«01_k».proof.Proof.Encoder.Equal
public import proofs.«01_k».proof.Proof.Gen.ReferenceIdeal.Run
public import proofs.«01_k».proof.Proof.Gen.ReferenceIdeal.Read
public import proofs.«01_k».proof.Proof.Gen.Pre_finite_and_in_range
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.ShloMosaic.StableHlo Idealize.SL.Sem

/-- The kernel over floating-point words ends, its arguments unchanged. -/
theorem quiescentKernel : quiescent_Kernel := fun m ρ _ => Cert.Kernel.Gen.frame m ρ

/-- The kernel over exact numbers ends, its arguments unchanged. -/
theorem quiescentKernelIdeal : quiescent_KernelIdeal := fun m ρ _ => Cert.KernelIdeal.Gen.frame m ρ

/-- The same where the precondition holds. -/
theorem quiescentKernelIdealPre : quiescent_KernelIdeal_pre_finite_and_in_range := fun m ρ _ => Cert.KernelIdeal.Gen.frame m ρ

/-- The reference ends, its arguments unchanged. -/
theorem quiescentReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem quiescentReferenceIdealPre : quiescent_ReferenceIdeal_pre_finite_and_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **Where the precondition holds the kernel and the reference end with equal results.** -/
theorem algebraic : algebraic_KernelIdeal_ReferenceIdeal_pre_finite_and_in_range := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v60_eq (F := Ideal) (launchContents m' c)).trans ?_)
  obtain ⟨e0, e1, e2, e3, e4, e5, e6, e7, e8, e9, e10, e11, e12, e13, e14, e15, e16⟩ := hagree c
  exact Cert.Encoder.ref_result m c hpre e0 e1 e2 e3 e4 e5 e6 e7 e8 e9 e10 e11 e12 e13 e14 e15 e16

/-- Every claim. -/
theorem claim : Cert.Claim :=
  ⟨Cert.Kernel.Gen.facts, Cert.KernelIdeal.Gen.facts, Cert.ReferenceIdeal.Gen.facts, Cert.Pre_finite_and_in_range.Gen.facts,
    quiescentKernel, quiescentKernelIdeal, quiescentKernelIdealPre, quiescentReferenceIdeal, quiescentReferenceIdealPre,
    (trivial : preserves_Kernel_KernelIdeal), algebraic⟩

end Cert.Proof

end
